-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S1344x1536 : Shape := ⟨2, ![1344, 1536]⟩
abbrev S3x3x4 : Shape := ⟨3, ![3, 3, 4]⟩
abbrev S_ : Shape := ⟨0, ![]⟩
abbrev S768x768 : Shape := ⟨2, ![768, 768]⟩
abbrev S768x512 : Shape := ⟨2, ![768, 512]⟩
abbrev S1x1x1 : Shape := ⟨3, ![1, 1, 1]⟩
abbrev S768x128 : Shape := ⟨2, ![768, 128]⟩
abbrev S384x128 : Shape := ⟨2, ![384, 128]⟩
abbrev S192x128 : Shape := ⟨2, ![192, 128]⟩

abbrev nBuf : Space → Nat
  | .hbm => 3
  | .vmem => 5
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x1536, .bf16⟩
  | .local _ .vmem, ⟨4, _⟩ => ⟨S1344x1536, .bf16⟩
  | _, _ => ⟨S1536x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 147 → Bool
  | ⟨i, _⟩ => dmaSemScopedAt i

abbrev sig : RefSig :=
  (ofTc nBuf bufTy 1 147 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_10 : BitVec 32 := 1#32
  let v22 : BitVec 32 := Scalar.muli v15 c1_i32_10
  let v23 : BitVec 32 := Scalar.addi c0_i32 v22
  v23.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_12 : BitVec 32 := 1#32
  let v24 : BitVec 32 := Scalar.muli v18 c1_i32_12
  let v25 : BitVec 32 := Scalar.addi c0_i32_13 v24
  v25.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_15 : BitVec 32 := 1#32
  let v26 : BitVec 32 := Scalar.muli v20 c1_i32_15
  let v27 : BitVec 32 := Scalar.addi c0_i32_16 v26
  v27.toNat
def k0_off1 (d0 : Dev nD) : Fin 2 → Nat :=
  let c0_i32_21 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v30 : BitVec 32 := Scalar.subi c1_i32_19 v7
  let c768_i32_20 : BitVec 32 := 768#32
  let v31 : BitVec 32 := Scalar.muli v30 c768_i32_20
  let v32 : BitVec 32 := Scalar.addi c0_i32_21 v31
  let v87 : Index := Scalar.indexCast v32
  let c0_55 : Index := 0#32
  ![v87.toNat, 0]
def k0_off2 (d0 : Dev nD) : Fin 2 → Nat :=
  let c0_i32_21 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v30 : BitVec 32 := Scalar.subi c1_i32_19 v7
  let c768_i32_20 : BitVec 32 := 768#32
  let v31 : BitVec 32 := Scalar.muli v30 c768_i32_20
  let v32 : BitVec 32 := Scalar.addi c0_i32_21 v31
  let v93 : Index := Scalar.indexCast v32
  let c0_56 : Index := 0#32
  ![v93.toNat, 0]
def k0_off3 (d0 : Dev nD) : Fin 2 → Nat :=
  let c0_i32_21 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v30 : BitVec 32 := Scalar.subi c1_i32_19 v7
  let c768_i32_20 : BitVec 32 := 768#32
  let v31 : BitVec 32 := Scalar.muli v30 c768_i32_20
  let v32 : BitVec 32 := Scalar.addi c0_i32_21 v31
  let c0_i32_67 : BitVec 32 := 0#32
  ![v32.toNat, 0]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_63 : BitVec 32 := 1#32
  let v97 : BitVec 32 := Scalar.muli v15 c1_i32_63
  let v98 : BitVec 32 := Scalar.addi c0_i32_64 v97
  v98.toNat
def k0_off4 (d0 : Dev nD) : Fin 2 → Nat :=
  let c0_i32_21 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v30 : BitVec 32 := Scalar.subi c1_i32_19 v7
  let c768_i32_20 : BitVec 32 := 768#32
  let v31 : BitVec 32 := Scalar.muli v30 c768_i32_20
  let v32 : BitVec 32 := Scalar.addi c0_i32_21 v31
  let c128_i32_77 : BitVec 32 := 128#32
  ![v32.toNat, 128]
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_74 : BitVec 32 := 1#32
  let v105 : BitVec 32 := Scalar.muli v15 c1_i32_74
  let v106 : BitVec 32 := Scalar.addi c0_i32_75 v105
  v106.toNat
def k0_off5 (d0 : Dev nD) : Fin 2 → Nat :=
  let c0_i32_21 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v30 : BitVec 32 := Scalar.subi c1_i32_19 v7
  let c768_i32_20 : BitVec 32 := 768#32
  let v31 : BitVec 32 := Scalar.muli v30 c768_i32_20
  let v32 : BitVec 32 := Scalar.addi c0_i32_21 v31
  let c256_i32_87 : BitVec 32 := 256#32
  ![v32.toNat, 256]
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_84 : BitVec 32 := 1#32
  let v113 : BitVec 32 := Scalar.muli v15 c1_i32_84
  let v114 : BitVec 32 := Scalar.addi c0_i32_85 v113
  v114.toNat
def k0_off6 (d0 : Dev nD) : Fin 2 → Nat :=
  let c0_i32_21 : BitVec 32 := 0#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v30 : BitVec 32 := Scalar.subi c1_i32_19 v7
  let c768_i32_20 : BitVec 32 := 768#32
  let v31 : BitVec 32 := Scalar.muli v30 c768_i32_20
  let v32 : BitVec 32 := Scalar.addi c0_i32_21 v31
  let c384_i32_98 : BitVec 32 := 384#32
  ![v32.toNat, 384]
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_94 : BitVec 32 := 1#32
  let v121 : BitVec 32 := Scalar.muli v15 c1_i32_94
  let v122 : BitVec 32 := Scalar.addi c0_i32_95 v121
  v122.toNat
def k0_off7 (d0 : Dev nD) : Fin 2 → Nat :=
  let c0_i32_32 : BitVec 32 := 0#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let v49 : BitVec 32 := Scalar.subi c1_i32_30 v9
  let c768_i32_31 : BitVec 32 := 768#32
  let v50 : BitVec 32 := Scalar.muli v49 c768_i32_31
  let v51 : BitVec 32 := Scalar.addi c0_i32_32 v50
  let v129 : Index := Scalar.indexCast v51
  let c0_99 : Index := 0#32
  ![v129.toNat, 0]
def k0_off8 (d0 : Dev nD) : Fin 2 → Nat :=
  let c0_i32_32 : BitVec 32 := 0#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let v49 : BitVec 32 := Scalar.subi c1_i32_30 v9
  let c768_i32_31 : BitVec 32 := 768#32
  let v50 : BitVec 32 := Scalar.muli v49 c768_i32_31
  let v51 : BitVec 32 := Scalar.addi c0_i32_32 v50
  let v135 : Index := Scalar.indexCast v51
  let c512 : Index := 512#32
  ![v135.toNat, 512]
def k0_off9 (d0 : Dev nD) : Fin 2 → Nat :=
  let c0_i32_32 : BitVec 32 := 0#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let v49 : BitVec 32 := Scalar.subi c1_i32_30 v9
  let c768_i32_31 : BitVec 32 := 768#32
  let v50 : BitVec 32 := Scalar.muli v49 c768_i32_31
  let v51 : BitVec 32 := Scalar.addi c0_i32_32 v50
  let c512_i32_110 : BitVec 32 := 512#32
  ![v51.toNat, 512]
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_107 : BitVec 32 := 1#32
  let v139 : BitVec 32 := Scalar.muli v18 c1_i32_107
  let v140 : BitVec 32 := Scalar.addi c0_i32_108 v139
  v140.toNat
def k0_off10 (d0 : Dev nD) : Fin 2 → Nat :=
  let c0_i32_32 : BitVec 32 := 0#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let v49 : BitVec 32 := Scalar.subi c1_i32_30 v9
  let c768_i32_31 : BitVec 32 := 768#32
  let v50 : BitVec 32 := Scalar.muli v49 c768_i32_31
  let v51 : BitVec 32 := Scalar.addi c0_i32_32 v50
  let c640_i32_120 : BitVec 32 := 640#32
  ![v51.toNat, 640]
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_117 : BitVec 32 := 1#32
  let v147 : BitVec 32 := Scalar.muli v18 c1_i32_117
  let v148 : BitVec 32 := Scalar.addi c0_i32_118 v147
  v148.toNat
def k0_off11 (d0 : Dev nD) : Fin 2 → Nat :=
  let c0_i32_32 : BitVec 32 := 0#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let v49 : BitVec 32 := Scalar.subi c1_i32_30 v9
  let c768_i32_31 : BitVec 32 := 768#32
  let v50 : BitVec 32 := Scalar.muli v49 c768_i32_31
  let v51 : BitVec 32 := Scalar.addi c0_i32_32 v50
  let c768_i32_131 : BitVec 32 := 768#32
  ![v51.toNat, 768]
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_127 : BitVec 32 := 1#32
  let v155 : BitVec 32 := Scalar.muli v18 c1_i32_127
  let v156 : BitVec 32 := Scalar.addi c0_i32_128 v155
  v156.toNat
def k0_off12 (d0 : Dev nD) : Fin 2 → Nat :=
  let c0_i32_32 : BitVec 32 := 0#32
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let v49 : BitVec 32 := Scalar.subi c1_i32_30 v9
  let c768_i32_31 : BitVec 32 := 768#32
  let v50 : BitVec 32 := Scalar.muli v49 c768_i32_31
  let v51 : BitVec 32 := Scalar.addi c0_i32_32 v50
  let c896_i32_141 : BitVec 32 := 896#32
  ![v51.toNat, 896]
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_138 : BitVec 32 := 1#32
  let v163 : BitVec 32 := Scalar.muli v18 c1_i32_138
  let v164 : BitVec 32 := Scalar.addi c0_i32_139 v163
  v164.toNat
def k0_off13 (d0 : Dev nD) : Fin 2 → Nat :=
  let c0_i32_45 : BitVec 32 := 0#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let v68 : BitVec 32 := Scalar.subi c1_i32_43 v11
  let c768_i32_44 : BitVec 32 := 768#32
  let v69 : BitVec 32 := Scalar.muli v68 c768_i32_44
  let v70 : BitVec 32 := Scalar.addi c0_i32_45 v69
  let v171 : Index := Scalar.indexCast v70
  let c0_142 : Index := 0#32
  ![v171.toNat, 0]
def k0_off14 (d0 : Dev nD) : Fin 2 → Nat :=
  let c0_i32_45 : BitVec 32 := 0#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let v68 : BitVec 32 := Scalar.subi c1_i32_43 v11
  let c768_i32_44 : BitVec 32 := 768#32
  let v69 : BitVec 32 := Scalar.muli v68 c768_i32_44
  let v70 : BitVec 32 := Scalar.addi c0_i32_45 v69
  let v177 : Index := Scalar.indexCast v70
  let c1024 : Index := 1024#32
  ![v177.toNat, 1024]
def k0_off15 (d0 : Dev nD) : Fin 2 → Nat :=
  let c0_i32_45 : BitVec 32 := 0#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let v68 : BitVec 32 := Scalar.subi c1_i32_43 v11
  let c768_i32_44 : BitVec 32 := 768#32
  let v69 : BitVec 32 := Scalar.muli v68 c768_i32_44
  let v70 : BitVec 32 := Scalar.addi c0_i32_45 v69
  let c1024_i32_153 : BitVec 32 := 1024#32
  ![v70.toNat, 1024]
def k0_dev12 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_150 : BitVec 32 := 1#32
  let v181 : BitVec 32 := Scalar.muli v20 c1_i32_150
  let v182 : BitVec 32 := Scalar.addi c0_i32_151 v181
  v182.toNat
def k0_off16 (d0 : Dev nD) : Fin 2 → Nat :=
  let c0_i32_45 : BitVec 32 := 0#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let v68 : BitVec 32 := Scalar.subi c1_i32_43 v11
  let c768_i32_44 : BitVec 32 := 768#32
  let v69 : BitVec 32 := Scalar.muli v68 c768_i32_44
  let v70 : BitVec 32 := Scalar.addi c0_i32_45 v69
  let c1152_i32_163 : BitVec 32 := 1152#32
  ![v70.toNat, 1152]
def k0_dev13 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_160 : BitVec 32 := 1#32
  let v189 : BitVec 32 := Scalar.muli v20 c1_i32_160
  let v190 : BitVec 32 := Scalar.addi c0_i32_161 v189
  v190.toNat
def k0_off17 (d0 : Dev nD) : Fin 2 → Nat :=
  let c0_i32_45 : BitVec 32 := 0#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let v68 : BitVec 32 := Scalar.subi c1_i32_43 v11
  let c768_i32_44 : BitVec 32 := 768#32
  let v69 : BitVec 32 := Scalar.muli v68 c768_i32_44
  let v70 : BitVec 32 := Scalar.addi c0_i32_45 v69
  let c1280_i32_173 : BitVec 32 := 1280#32
  ![v70.toNat, 1280]
def k0_dev14 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_170 : BitVec 32 := 1#32
  let v197 : BitVec 32 := Scalar.muli v20 c1_i32_170
  let v198 : BitVec 32 := Scalar.addi c0_i32_171 v197
  v198.toNat
def k0_off18 (d0 : Dev nD) : Fin 2 → Nat :=
  let c0_i32_45 : BitVec 32 := 0#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let v68 : BitVec 32 := Scalar.subi c1_i32_43 v11
  let c768_i32_44 : BitVec 32 := 768#32
  let v69 : BitVec 32 := Scalar.muli v68 c768_i32_44
  let v70 : BitVec 32 := Scalar.addi c0_i32_45 v69
  let c1408_i32_183 : BitVec 32 := 1408#32
  ![v70.toNat, 1408]
def k0_dev15 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_180 : BitVec 32 := 1#32
  let v205 : BitVec 32 := Scalar.muli v20 c1_i32_180
  let v206 : BitVec 32 := Scalar.addi c0_i32_181 v205
  v206.toNat
def k0_off19 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let v213 : Index := Scalar.indexCast v29
  let c0_184 : Index := 0#32
  ![v213.toNat, 0]
def k0_off20 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let v219 : Index := Scalar.indexCast v29
  let c0_186 : Index := 0#32
  ![v219.toNat, 0]
def k0_off21 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let v223 : Index := Scalar.indexCast v48
  let c0_187 : Index := 0#32
  ![v223.toNat, 0]
def k0_off22 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let v229 : Index := Scalar.indexCast v48
  let c512_189 : Index := 512#32
  ![v229.toNat, 512]
def k0_off23 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let v233 : Index := Scalar.indexCast v67
  let c0_190 : Index := 0#32
  ![v233.toNat, 0]
def k0_off24 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let v239 : Index := Scalar.indexCast v67
  let c1024_192 : Index := 1024#32
  ![v239.toNat, 1024]
def k0_off25 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let v253 : Index := Scalar.indexCast v29
  let c0_214 : Index := 0#32
  ![v253.toNat, 0]
def k0_off26 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c1_i32_22 : BitVec 32 := 1#32
  let c2_i32_1 : BitVec 32 := 2#32
  let v8 : BitVec 1 := Scalar.cmpi .sge v3 c2_i32_1
  let v9 : BitVec 32 := Scalar.extui v8
  let v35 : BitVec 32 := Scalar.subi c1_i32_22 v9
  let c384_i32_23 : BitVec 32 := 384#32
  let v36 : BitVec 32 := Scalar.muli v35 c384_i32_23
  let v37 : BitVec 32 := Scalar.addi v29 v36
  let c0_i32_228 : BitVec 32 := 0#32
  ![v37.toNat, 0]
def k0_dev16 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_224 : BitVec 32 := 1#32
  let v261 : BitVec 32 := Scalar.muli v18 c1_i32_224
  let v262 : BitVec 32 := Scalar.addi c0_i32_225 v261
  v262.toNat
def k0_off27 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let v279 : Index := Scalar.indexCast v48
  let c512_250 : Index := 512#32
  ![v279.toNat, 512]
def k0_off28 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c1_i32_34 : BitVec 32 := 1#32
  let c4_i32_2 : BitVec 32 := 4#32
  let v10 : BitVec 1 := Scalar.cmpi .sge v2 c4_i32_2
  let v11 : BitVec 32 := Scalar.extui v10
  let v54 : BitVec 32 := Scalar.subi c1_i32_34 v11
  let c384_i32_35 : BitVec 32 := 384#32
  let v55 : BitVec 32 := Scalar.muli v54 c384_i32_35
  let v56 : BitVec 32 := Scalar.addi v48 v55
  let c512_i32_264 : BitVec 32 := 512#32
  ![v56.toNat, 512]
def k0_dev17 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_260 : BitVec 32 := 1#32
  let v287 : BitVec 32 := Scalar.muli v20 c1_i32_260
  let v288 : BitVec 32 := Scalar.addi c0_i32_261 v287
  v288.toNat
def k0_off29 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let v305 : Index := Scalar.indexCast v67
  let c1024_286 : Index := 1024#32
  ![v305.toNat, 1024]
def k0_off30 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c1_i32_47 : BitVec 32 := 1#32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v73 : BitVec 32 := Scalar.subi c1_i32_47 v7
  let c384_i32_48 : BitVec 32 := 384#32
  let v74 : BitVec 32 := Scalar.muli v73 c384_i32_48
  let v75 : BitVec 32 := Scalar.addi v67 v74
  let c1024_i32_300 : BitVec 32 := 1024#32
  ![v75.toNat, 1024]
def k0_dev18 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_296 : BitVec 32 := 1#32
  let v313 : BitVec 32 := Scalar.muli v15 c1_i32_296
  let v314 : BitVec 32 := Scalar.addi c0_i32_297 v313
  v314.toNat
def k0_off31 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let v331 : Index := Scalar.indexCast v29
  let c128 : Index := 128#32
  ![v331.toNat, 128]
def k0_off32 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c1_i32_22 : BitVec 32 := 1#32
  let c2_i32_1 : BitVec 32 := 2#32
  let v8 : BitVec 1 := Scalar.cmpi .sge v3 c2_i32_1
  let v9 : BitVec 32 := Scalar.extui v8
  let v35 : BitVec 32 := Scalar.subi c1_i32_22 v9
  let c384_i32_23 : BitVec 32 := 384#32
  let v36 : BitVec 32 := Scalar.muli v35 c384_i32_23
  let v37 : BitVec 32 := Scalar.addi v29 v36
  let c128_i32_335 : BitVec 32 := 128#32
  ![v37.toNat, 128]
def k0_dev19 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_331 : BitVec 32 := 1#32
  let v339 : BitVec 32 := Scalar.muli v18 c1_i32_331
  let v340 : BitVec 32 := Scalar.addi c0_i32_332 v339
  v340.toNat
def k0_off33 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let v357 : Index := Scalar.indexCast v48
  let c640 : Index := 640#32
  ![v357.toNat, 640]
def k0_off34 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c1_i32_34 : BitVec 32 := 1#32
  let c4_i32_2 : BitVec 32 := 4#32
  let v10 : BitVec 1 := Scalar.cmpi .sge v2 c4_i32_2
  let v11 : BitVec 32 := Scalar.extui v10
  let v54 : BitVec 32 := Scalar.subi c1_i32_34 v11
  let c384_i32_35 : BitVec 32 := 384#32
  let v55 : BitVec 32 := Scalar.muli v54 c384_i32_35
  let v56 : BitVec 32 := Scalar.addi v48 v55
  let c640_i32_370 : BitVec 32 := 640#32
  ![v56.toNat, 640]
def k0_dev20 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_366 : BitVec 32 := 1#32
  let v365 : BitVec 32 := Scalar.muli v20 c1_i32_366
  let v366 : BitVec 32 := Scalar.addi c0_i32_367 v365
  v366.toNat
def k0_off35 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let v383 : Index := Scalar.indexCast v67
  let c1152 : Index := 1152#32
  ![v383.toNat, 1152]
def k0_off36 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c1_i32_47 : BitVec 32 := 1#32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v73 : BitVec 32 := Scalar.subi c1_i32_47 v7
  let c384_i32_48 : BitVec 32 := 384#32
  let v74 : BitVec 32 := Scalar.muli v73 c384_i32_48
  let v75 : BitVec 32 := Scalar.addi v67 v74
  let c1152_i32_405 : BitVec 32 := 1152#32
  ![v75.toNat, 1152]
def k0_dev21 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_401 : BitVec 32 := 1#32
  let v391 : BitVec 32 := Scalar.muli v15 c1_i32_401
  let v392 : BitVec 32 := Scalar.addi c0_i32_402 v391
  v392.toNat
def k0_off37 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let v409 : Index := Scalar.indexCast v29
  let c256 : Index := 256#32
  ![v409.toNat, 256]
def k0_off38 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c1_i32_22 : BitVec 32 := 1#32
  let c2_i32_1 : BitVec 32 := 2#32
  let v8 : BitVec 1 := Scalar.cmpi .sge v3 c2_i32_1
  let v9 : BitVec 32 := Scalar.extui v8
  let v35 : BitVec 32 := Scalar.subi c1_i32_22 v9
  let c384_i32_23 : BitVec 32 := 384#32
  let v36 : BitVec 32 := Scalar.muli v35 c384_i32_23
  let v37 : BitVec 32 := Scalar.addi v29 v36
  let c256_i32_440 : BitVec 32 := 256#32
  ![v37.toNat, 256]
def k0_dev22 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_436 : BitVec 32 := 1#32
  let v417 : BitVec 32 := Scalar.muli v18 c1_i32_436
  let v418 : BitVec 32 := Scalar.addi c0_i32_437 v417
  v418.toNat
def k0_off39 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let v435 : Index := Scalar.indexCast v48
  let c768 : Index := 768#32
  ![v435.toNat, 768]
def k0_off40 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c1_i32_34 : BitVec 32 := 1#32
  let c4_i32_2 : BitVec 32 := 4#32
  let v10 : BitVec 1 := Scalar.cmpi .sge v2 c4_i32_2
  let v11 : BitVec 32 := Scalar.extui v10
  let v54 : BitVec 32 := Scalar.subi c1_i32_34 v11
  let c384_i32_35 : BitVec 32 := 384#32
  let v55 : BitVec 32 := Scalar.muli v54 c384_i32_35
  let v56 : BitVec 32 := Scalar.addi v48 v55
  let c768_i32_475 : BitVec 32 := 768#32
  ![v56.toNat, 768]
def k0_dev23 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_471 : BitVec 32 := 1#32
  let v443 : BitVec 32 := Scalar.muli v20 c1_i32_471
  let v444 : BitVec 32 := Scalar.addi c0_i32_472 v443
  v444.toNat
def k0_off41 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let v461 : Index := Scalar.indexCast v67
  let c1280 : Index := 1280#32
  ![v461.toNat, 1280]
def k0_off42 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c1_i32_47 : BitVec 32 := 1#32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v73 : BitVec 32 := Scalar.subi c1_i32_47 v7
  let c384_i32_48 : BitVec 32 := 384#32
  let v74 : BitVec 32 := Scalar.muli v73 c384_i32_48
  let v75 : BitVec 32 := Scalar.addi v67 v74
  let c1280_i32_510 : BitVec 32 := 1280#32
  ![v75.toNat, 1280]
def k0_dev24 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_506 : BitVec 32 := 1#32
  let v469 : BitVec 32 := Scalar.muli v15 c1_i32_506
  let v470 : BitVec 32 := Scalar.addi c0_i32_507 v469
  v470.toNat
def k0_off43 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let v487 : Index := Scalar.indexCast v29
  let c384 : Index := 384#32
  ![v487.toNat, 384]
def k0_off44 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c1_i32_22 : BitVec 32 := 1#32
  let c2_i32_1 : BitVec 32 := 2#32
  let v8 : BitVec 1 := Scalar.cmpi .sge v3 c2_i32_1
  let v9 : BitVec 32 := Scalar.extui v8
  let v35 : BitVec 32 := Scalar.subi c1_i32_22 v9
  let c384_i32_23 : BitVec 32 := 384#32
  let v36 : BitVec 32 := Scalar.muli v35 c384_i32_23
  let v37 : BitVec 32 := Scalar.addi v29 v36
  let c384_i32_545 : BitVec 32 := 384#32
  ![v37.toNat, 384]
def k0_dev25 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_541 : BitVec 32 := 1#32
  let v495 : BitVec 32 := Scalar.muli v18 c1_i32_541
  let v496 : BitVec 32 := Scalar.addi c0_i32_542 v495
  v496.toNat
def k0_off45 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let v513 : Index := Scalar.indexCast v48
  let c896 : Index := 896#32
  ![v513.toNat, 896]
def k0_off46 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c1_i32_34 : BitVec 32 := 1#32
  let c4_i32_2 : BitVec 32 := 4#32
  let v10 : BitVec 1 := Scalar.cmpi .sge v2 c4_i32_2
  let v11 : BitVec 32 := Scalar.extui v10
  let v54 : BitVec 32 := Scalar.subi c1_i32_34 v11
  let c384_i32_35 : BitVec 32 := 384#32
  let v55 : BitVec 32 := Scalar.muli v54 c384_i32_35
  let v56 : BitVec 32 := Scalar.addi v48 v55
  let c896_i32_580 : BitVec 32 := 896#32
  ![v56.toNat, 896]
def k0_dev26 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_576 : BitVec 32 := 1#32
  let v521 : BitVec 32 := Scalar.muli v20 c1_i32_576
  let v522 : BitVec 32 := Scalar.addi c0_i32_577 v521
  v522.toNat
def k0_off47 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let v539 : Index := Scalar.indexCast v67
  let c1408 : Index := 1408#32
  ![v539.toNat, 1408]
def k0_off48 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c1_i32_47 : BitVec 32 := 1#32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v73 : BitVec 32 := Scalar.subi c1_i32_47 v7
  let c384_i32_48 : BitVec 32 := 384#32
  let v74 : BitVec 32 := Scalar.muli v73 c384_i32_48
  let v75 : BitVec 32 := Scalar.addi v67 v74
  let c1408_i32_615 : BitVec 32 := 1408#32
  ![v75.toNat, 1408]
def k0_dev27 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_611 : BitVec 32 := 1#32
  let v547 : BitVec 32 := Scalar.muli v15 c1_i32_611
  let v548 : BitVec 32 := Scalar.addi c0_i32_612 v547
  v548.toNat
def k0_off49 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let v565 : Index := Scalar.indexCast v34
  let c0_637 : Index := 0#32
  ![v565.toNat, 0]
def k0_off50 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c1_i32_24 : BitVec 32 := 1#32
  let c4_i32_2 : BitVec 32 := 4#32
  let v10 : BitVec 1 := Scalar.cmpi .sge v2 c4_i32_2
  let v11 : BitVec 32 := Scalar.extui v10
  let v40 : BitVec 32 := Scalar.subi c1_i32_24 v11
  let c192_i32_25 : BitVec 32 := 192#32
  let v41 : BitVec 32 := Scalar.muli v40 c192_i32_25
  let v42 : BitVec 32 := Scalar.addi v34 v41
  let c0_i32_651 : BitVec 32 := 0#32
  ![v42.toNat, 0]
def k0_dev28 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_647 : BitVec 32 := 1#32
  let v573 : BitVec 32 := Scalar.muli v20 c1_i32_647
  let v574 : BitVec 32 := Scalar.addi c0_i32_648 v573
  v574.toNat
def k0_off51 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let v591 : Index := Scalar.indexCast v53
  let c512_673 : Index := 512#32
  ![v591.toNat, 512]
def k0_off52 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_37 : BitVec 32 := 1#32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v59 : BitVec 32 := Scalar.subi c1_i32_37 v7
  let c192_i32_38 : BitVec 32 := 192#32
  let v60 : BitVec 32 := Scalar.muli v59 c192_i32_38
  let v61 : BitVec 32 := Scalar.addi v53 v60
  let c512_i32_687 : BitVec 32 := 512#32
  ![v61.toNat, 512]
def k0_dev29 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_683 : BitVec 32 := 1#32
  let v599 : BitVec 32 := Scalar.muli v15 c1_i32_683
  let v600 : BitVec 32 := Scalar.addi c0_i32_684 v599
  v600.toNat
def k0_off53 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let v617 : Index := Scalar.indexCast v72
  let c1024_709 : Index := 1024#32
  ![v617.toNat, 1024]
def k0_off54 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c1_i32_50 : BitVec 32 := 1#32
  let c2_i32_1 : BitVec 32 := 2#32
  let v8 : BitVec 1 := Scalar.cmpi .sge v3 c2_i32_1
  let v9 : BitVec 32 := Scalar.extui v8
  let v78 : BitVec 32 := Scalar.subi c1_i32_50 v9
  let c192_i32_51 : BitVec 32 := 192#32
  let v79 : BitVec 32 := Scalar.muli v78 c192_i32_51
  let v80 : BitVec 32 := Scalar.addi v72 v79
  let c1024_i32_723 : BitVec 32 := 1024#32
  ![v80.toNat, 1024]
def k0_dev30 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_719 : BitVec 32 := 1#32
  let v625 : BitVec 32 := Scalar.muli v18 c1_i32_719
  let v626 : BitVec 32 := Scalar.addi c0_i32_720 v625
  v626.toNat
def k0_off55 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let v643 : Index := Scalar.indexCast v34
  let c128_745 : Index := 128#32
  ![v643.toNat, 128]
def k0_off56 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c1_i32_24 : BitVec 32 := 1#32
  let c4_i32_2 : BitVec 32 := 4#32
  let v10 : BitVec 1 := Scalar.cmpi .sge v2 c4_i32_2
  let v11 : BitVec 32 := Scalar.extui v10
  let v40 : BitVec 32 := Scalar.subi c1_i32_24 v11
  let c192_i32_25 : BitVec 32 := 192#32
  let v41 : BitVec 32 := Scalar.muli v40 c192_i32_25
  let v42 : BitVec 32 := Scalar.addi v34 v41
  let c128_i32_759 : BitVec 32 := 128#32
  ![v42.toNat, 128]
def k0_dev31 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_755 : BitVec 32 := 1#32
  let v651 : BitVec 32 := Scalar.muli v20 c1_i32_755
  let v652 : BitVec 32 := Scalar.addi c0_i32_756 v651
  v652.toNat
def k0_off57 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let v669 : Index := Scalar.indexCast v53
  let c640_781 : Index := 640#32
  ![v669.toNat, 640]
def k0_off58 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_37 : BitVec 32 := 1#32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v59 : BitVec 32 := Scalar.subi c1_i32_37 v7
  let c192_i32_38 : BitVec 32 := 192#32
  let v60 : BitVec 32 := Scalar.muli v59 c192_i32_38
  let v61 : BitVec 32 := Scalar.addi v53 v60
  let c640_i32_795 : BitVec 32 := 640#32
  ![v61.toNat, 640]
def k0_dev32 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_791 : BitVec 32 := 1#32
  let v677 : BitVec 32 := Scalar.muli v15 c1_i32_791
  let v678 : BitVec 32 := Scalar.addi c0_i32_792 v677
  v678.toNat
def k0_off59 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let v695 : Index := Scalar.indexCast v72
  let c1152_817 : Index := 1152#32
  ![v695.toNat, 1152]
def k0_off60 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c1_i32_50 : BitVec 32 := 1#32
  let c2_i32_1 : BitVec 32 := 2#32
  let v8 : BitVec 1 := Scalar.cmpi .sge v3 c2_i32_1
  let v9 : BitVec 32 := Scalar.extui v8
  let v78 : BitVec 32 := Scalar.subi c1_i32_50 v9
  let c192_i32_51 : BitVec 32 := 192#32
  let v79 : BitVec 32 := Scalar.muli v78 c192_i32_51
  let v80 : BitVec 32 := Scalar.addi v72 v79
  let c1152_i32_831 : BitVec 32 := 1152#32
  ![v80.toNat, 1152]
def k0_dev33 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_827 : BitVec 32 := 1#32
  let v703 : BitVec 32 := Scalar.muli v18 c1_i32_827
  let v704 : BitVec 32 := Scalar.addi c0_i32_828 v703
  v704.toNat
def k0_off61 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let v721 : Index := Scalar.indexCast v34
  let c256_853 : Index := 256#32
  ![v721.toNat, 256]
def k0_off62 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c1_i32_24 : BitVec 32 := 1#32
  let c4_i32_2 : BitVec 32 := 4#32
  let v10 : BitVec 1 := Scalar.cmpi .sge v2 c4_i32_2
  let v11 : BitVec 32 := Scalar.extui v10
  let v40 : BitVec 32 := Scalar.subi c1_i32_24 v11
  let c192_i32_25 : BitVec 32 := 192#32
  let v41 : BitVec 32 := Scalar.muli v40 c192_i32_25
  let v42 : BitVec 32 := Scalar.addi v34 v41
  let c256_i32_867 : BitVec 32 := 256#32
  ![v42.toNat, 256]
def k0_dev34 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_863 : BitVec 32 := 1#32
  let v729 : BitVec 32 := Scalar.muli v20 c1_i32_863
  let v730 : BitVec 32 := Scalar.addi c0_i32_864 v729
  v730.toNat
def k0_off63 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let v747 : Index := Scalar.indexCast v53
  let c768_889 : Index := 768#32
  ![v747.toNat, 768]
def k0_off64 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_37 : BitVec 32 := 1#32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v59 : BitVec 32 := Scalar.subi c1_i32_37 v7
  let c192_i32_38 : BitVec 32 := 192#32
  let v60 : BitVec 32 := Scalar.muli v59 c192_i32_38
  let v61 : BitVec 32 := Scalar.addi v53 v60
  let c768_i32_903 : BitVec 32 := 768#32
  ![v61.toNat, 768]
def k0_dev35 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_899 : BitVec 32 := 1#32
  let v755 : BitVec 32 := Scalar.muli v15 c1_i32_899
  let v756 : BitVec 32 := Scalar.addi c0_i32_900 v755
  v756.toNat
def k0_off65 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let v773 : Index := Scalar.indexCast v72
  let c1280_925 : Index := 1280#32
  ![v773.toNat, 1280]
def k0_off66 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c1_i32_50 : BitVec 32 := 1#32
  let c2_i32_1 : BitVec 32 := 2#32
  let v8 : BitVec 1 := Scalar.cmpi .sge v3 c2_i32_1
  let v9 : BitVec 32 := Scalar.extui v8
  let v78 : BitVec 32 := Scalar.subi c1_i32_50 v9
  let c192_i32_51 : BitVec 32 := 192#32
  let v79 : BitVec 32 := Scalar.muli v78 c192_i32_51
  let v80 : BitVec 32 := Scalar.addi v72 v79
  let c1280_i32_939 : BitVec 32 := 1280#32
  ![v80.toNat, 1280]
def k0_dev36 (d0 : Dev nD) : Nat :=
  let c0_i32_936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_935 : BitVec 32 := 1#32
  let v781 : BitVec 32 := Scalar.muli v18 c1_i32_935
  let v782 : BitVec 32 := Scalar.addi c0_i32_936 v781
  v782.toNat
def k0_off67 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let v799 : Index := Scalar.indexCast v34
  let c384_961 : Index := 384#32
  ![v799.toNat, 384]
def k0_off68 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c1_i32_24 : BitVec 32 := 1#32
  let c4_i32_2 : BitVec 32 := 4#32
  let v10 : BitVec 1 := Scalar.cmpi .sge v2 c4_i32_2
  let v11 : BitVec 32 := Scalar.extui v10
  let v40 : BitVec 32 := Scalar.subi c1_i32_24 v11
  let c192_i32_25 : BitVec 32 := 192#32
  let v41 : BitVec 32 := Scalar.muli v40 c192_i32_25
  let v42 : BitVec 32 := Scalar.addi v34 v41
  let c384_i32_975 : BitVec 32 := 384#32
  ![v42.toNat, 384]
def k0_dev37 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_971 : BitVec 32 := 1#32
  let v807 : BitVec 32 := Scalar.muli v20 c1_i32_971
  let v808 : BitVec 32 := Scalar.addi c0_i32_972 v807
  v808.toNat
def k0_off69 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let v825 : Index := Scalar.indexCast v53
  let c896_997 : Index := 896#32
  ![v825.toNat, 896]
def k0_off70 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_37 : BitVec 32 := 1#32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let v59 : BitVec 32 := Scalar.subi c1_i32_37 v7
  let c192_i32_38 : BitVec 32 := 192#32
  let v60 : BitVec 32 := Scalar.muli v59 c192_i32_38
  let v61 : BitVec 32 := Scalar.addi v53 v60
  let c896_i32_1011 : BitVec 32 := 896#32
  ![v61.toNat, 896]
def k0_dev38 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1007 : BitVec 32 := 1#32
  let v833 : BitVec 32 := Scalar.muli v15 c1_i32_1007
  let v834 : BitVec 32 := Scalar.addi c0_i32_1008 v833
  v834.toNat
def k0_off71 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let v851 : Index := Scalar.indexCast v72
  let c1408_1033 : Index := 1408#32
  ![v851.toNat, 1408]
def k0_off72 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c1_i32_50 : BitVec 32 := 1#32
  let c2_i32_1 : BitVec 32 := 2#32
  let v8 : BitVec 1 := Scalar.cmpi .sge v3 c2_i32_1
  let v9 : BitVec 32 := Scalar.extui v8
  let v78 : BitVec 32 := Scalar.subi c1_i32_50 v9
  let c192_i32_51 : BitVec 32 := 192#32
  let v79 : BitVec 32 := Scalar.muli v78 c192_i32_51
  let v80 : BitVec 32 := Scalar.addi v72 v79
  let c1408_i32_1047 : BitVec 32 := 1408#32
  ![v80.toNat, 1408]
def k0_dev39 (d0 : Dev nD) : Nat :=
  let c0_i32_1044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1043 : BitVec 32 := 1#32
  let v859 : BitVec 32 := Scalar.muli v18 c1_i32_1043
  let v860 : BitVec 32 := Scalar.addi c0_i32_1044 v859
  v860.toNat
def k0_off73 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let v877 : Index := Scalar.indexCast v39
  let c0_1069 : Index := 0#32
  ![v877.toNat, 0]
def k0_off74 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c0_i32_1084 : BitVec 32 := 0#32
  ![v39.toNat, 0]
def k0_dev40 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1082 : BitVec 32 := 1#32
  let v891 : BitVec 32 := Scalar.muli v20 c1_i32_1082
  let v892 : BitVec 32 := Scalar.addi c0_i32_1083 v891
  v892.toNat
def k0_off75 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let v909 : Index := Scalar.indexCast v58
  let c512_1107 : Index := 512#32
  ![v909.toNat, 512]
def k0_off76 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c512_i32_1122 : BitVec 32 := 512#32
  ![v58.toNat, 512]
def k0_dev41 (d0 : Dev nD) : Nat :=
  let c0_i32_1121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1120 : BitVec 32 := 1#32
  let v923 : BitVec 32 := Scalar.muli v15 c1_i32_1120
  let v924 : BitVec 32 := Scalar.addi c0_i32_1121 v923
  v924.toNat
def k0_off77 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let v941 : Index := Scalar.indexCast v77
  let c1024_1145 : Index := 1024#32
  ![v941.toNat, 1024]
def k0_off78 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c1024_i32_1160 : BitVec 32 := 1024#32
  ![v77.toNat, 1024]
def k0_dev42 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1158 : BitVec 32 := 1#32
  let v955 : BitVec 32 := Scalar.muli v18 c1_i32_1158
  let v956 : BitVec 32 := Scalar.addi c0_i32_1159 v955
  v956.toNat
def k0_off79 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let v973 : Index := Scalar.indexCast v39
  let c128_1183 : Index := 128#32
  ![v973.toNat, 128]
def k0_off80 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c128_i32_1198 : BitVec 32 := 128#32
  ![v39.toNat, 128]
def k0_dev43 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1196 : BitVec 32 := 1#32
  let v987 : BitVec 32 := Scalar.muli v20 c1_i32_1196
  let v988 : BitVec 32 := Scalar.addi c0_i32_1197 v987
  v988.toNat
def k0_off81 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let v1005 : Index := Scalar.indexCast v58
  let c640_1221 : Index := 640#32
  ![v1005.toNat, 640]
def k0_off82 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c640_i32_1236 : BitVec 32 := 640#32
  ![v58.toNat, 640]
def k0_dev44 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1234 : BitVec 32 := 1#32
  let v1019 : BitVec 32 := Scalar.muli v15 c1_i32_1234
  let v1020 : BitVec 32 := Scalar.addi c0_i32_1235 v1019
  v1020.toNat
def k0_off83 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let v1037 : Index := Scalar.indexCast v77
  let c1152_1259 : Index := 1152#32
  ![v1037.toNat, 1152]
def k0_off84 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c1152_i32_1274 : BitVec 32 := 1152#32
  ![v77.toNat, 1152]
def k0_dev45 (d0 : Dev nD) : Nat :=
  let c0_i32_1273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1272 : BitVec 32 := 1#32
  let v1051 : BitVec 32 := Scalar.muli v18 c1_i32_1272
  let v1052 : BitVec 32 := Scalar.addi c0_i32_1273 v1051
  v1052.toNat
def k0_off85 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let v1069 : Index := Scalar.indexCast v39
  let c256_1297 : Index := 256#32
  ![v1069.toNat, 256]
def k0_off86 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c256_i32_1312 : BitVec 32 := 256#32
  ![v39.toNat, 256]
def k0_dev46 (d0 : Dev nD) : Nat :=
  let c0_i32_1311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1310 : BitVec 32 := 1#32
  let v1083 : BitVec 32 := Scalar.muli v20 c1_i32_1310
  let v1084 : BitVec 32 := Scalar.addi c0_i32_1311 v1083
  v1084.toNat
def k0_off87 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let v1101 : Index := Scalar.indexCast v58
  let c768_1335 : Index := 768#32
  ![v1101.toNat, 768]
def k0_off88 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c768_i32_1350 : BitVec 32 := 768#32
  ![v58.toNat, 768]
def k0_dev47 (d0 : Dev nD) : Nat :=
  let c0_i32_1349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1348 : BitVec 32 := 1#32
  let v1115 : BitVec 32 := Scalar.muli v15 c1_i32_1348
  let v1116 : BitVec 32 := Scalar.addi c0_i32_1349 v1115
  v1116.toNat
def k0_off89 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let v1133 : Index := Scalar.indexCast v77
  let c1280_1373 : Index := 1280#32
  ![v1133.toNat, 1280]
def k0_off90 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c1280_i32_1388 : BitVec 32 := 1280#32
  ![v77.toNat, 1280]
def k0_dev48 (d0 : Dev nD) : Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1386 : BitVec 32 := 1#32
  let v1147 : BitVec 32 := Scalar.muli v18 c1_i32_1386
  let v1148 : BitVec 32 := Scalar.addi c0_i32_1387 v1147
  v1148.toNat
def k0_off91 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let v1165 : Index := Scalar.indexCast v39
  let c384_1411 : Index := 384#32
  ![v1165.toNat, 384]
def k0_off92 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c384_i32_1426 : BitVec 32 := 384#32
  ![v39.toNat, 384]
def k0_dev49 (d0 : Dev nD) : Nat :=
  let c0_i32_1425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1424 : BitVec 32 := 1#32
  let v1179 : BitVec 32 := Scalar.muli v20 c1_i32_1424
  let v1180 : BitVec 32 := Scalar.addi c0_i32_1425 v1179
  v1180.toNat
def k0_off93 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let v1197 : Index := Scalar.indexCast v58
  let c896_1449 : Index := 896#32
  ![v1197.toNat, 896]
def k0_off94 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c896_i32_1464 : BitVec 32 := 896#32
  ![v58.toNat, 896]
def k0_dev50 (d0 : Dev nD) : Nat :=
  let c0_i32_1463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1462 : BitVec 32 := 1#32
  let v1211 : BitVec 32 := Scalar.muli v15 c1_i32_1462
  let v1212 : BitVec 32 := Scalar.addi c0_i32_1463 v1211
  v1212.toNat
def k0_off95 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let v1229 : Index := Scalar.indexCast v77
  let c1408_1487 : Index := 1408#32
  ![v1229.toNat, 1408]
def k0_off96 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c1408_i32_1502 : BitVec 32 := 1408#32
  ![v77.toNat, 1408]
def k0_dev51 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1500 : BitVec 32 := 1#32
  let v1243 : BitVec 32 := Scalar.muli v18 c1_i32_1500
  let v1244 : BitVec 32 := Scalar.addi c0_i32_1501 v1243
  v1244.toNat
def k0_off97 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c0_i32_1531 : BitVec 32 := 0#32
  ![v44.toNat, 0]
def k0_dev52 (d0 : Dev nD) : Nat :=
  let c0_i32_1530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1529 : BitVec 32 := 1#32
  let v1261 : BitVec 32 := Scalar.muli v18 c1_i32_1529
  let v1262 : BitVec 32 := Scalar.addi c0_i32_1530 v1261
  v1262.toNat
def k0_off98 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c512_i32_1560 : BitVec 32 := 512#32
  ![v63.toNat, 512]
def k0_dev53 (d0 : Dev nD) : Nat :=
  let c0_i32_1559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1558 : BitVec 32 := 1#32
  let v1279 : BitVec 32 := Scalar.muli v20 c1_i32_1558
  let v1280 : BitVec 32 := Scalar.addi c0_i32_1559 v1279
  v1280.toNat
def k0_off99 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c1024_i32_1589 : BitVec 32 := 1024#32
  ![v82.toNat, 1024]
def k0_dev54 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1587 : BitVec 32 := 1#32
  let v1297 : BitVec 32 := Scalar.muli v15 c1_i32_1587
  let v1298 : BitVec 32 := Scalar.addi c0_i32_1588 v1297
  v1298.toNat
def k0_off100 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c128_i32_1618 : BitVec 32 := 128#32
  ![v44.toNat, 128]
def k0_dev55 (d0 : Dev nD) : Nat :=
  let c0_i32_1617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1616 : BitVec 32 := 1#32
  let v1315 : BitVec 32 := Scalar.muli v18 c1_i32_1616
  let v1316 : BitVec 32 := Scalar.addi c0_i32_1617 v1315
  v1316.toNat
def k0_off101 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c640_i32_1647 : BitVec 32 := 640#32
  ![v63.toNat, 640]
def k0_dev56 (d0 : Dev nD) : Nat :=
  let c0_i32_1646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1645 : BitVec 32 := 1#32
  let v1333 : BitVec 32 := Scalar.muli v20 c1_i32_1645
  let v1334 : BitVec 32 := Scalar.addi c0_i32_1646 v1333
  v1334.toNat
def k0_off102 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c1152_i32_1676 : BitVec 32 := 1152#32
  ![v82.toNat, 1152]
def k0_dev57 (d0 : Dev nD) : Nat :=
  let c0_i32_1675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1674 : BitVec 32 := 1#32
  let v1351 : BitVec 32 := Scalar.muli v15 c1_i32_1674
  let v1352 : BitVec 32 := Scalar.addi c0_i32_1675 v1351
  v1352.toNat
def k0_off103 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c256_i32_1705 : BitVec 32 := 256#32
  ![v44.toNat, 256]
def k0_dev58 (d0 : Dev nD) : Nat :=
  let c0_i32_1704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1703 : BitVec 32 := 1#32
  let v1369 : BitVec 32 := Scalar.muli v18 c1_i32_1703
  let v1370 : BitVec 32 := Scalar.addi c0_i32_1704 v1369
  v1370.toNat
def k0_off104 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c768_i32_1734 : BitVec 32 := 768#32
  ![v63.toNat, 768]
def k0_dev59 (d0 : Dev nD) : Nat :=
  let c0_i32_1733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1732 : BitVec 32 := 1#32
  let v1387 : BitVec 32 := Scalar.muli v20 c1_i32_1732
  let v1388 : BitVec 32 := Scalar.addi c0_i32_1733 v1387
  v1388.toNat
def k0_off105 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c1280_i32_1763 : BitVec 32 := 1280#32
  ![v82.toNat, 1280]
def k0_dev60 (d0 : Dev nD) : Nat :=
  let c0_i32_1762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1761 : BitVec 32 := 1#32
  let v1405 : BitVec 32 := Scalar.muli v15 c1_i32_1761
  let v1406 : BitVec 32 := Scalar.addi c0_i32_1762 v1405
  v1406.toNat
def k0_off106 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c384_i32_1792 : BitVec 32 := 384#32
  ![v44.toNat, 384]
def k0_dev61 (d0 : Dev nD) : Nat :=
  let c0_i32_1791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1790 : BitVec 32 := 1#32
  let v1423 : BitVec 32 := Scalar.muli v18 c1_i32_1790
  let v1424 : BitVec 32 := Scalar.addi c0_i32_1791 v1423
  v1424.toNat
def k0_off107 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c896_i32_1821 : BitVec 32 := 896#32
  ![v63.toNat, 896]
def k0_dev62 (d0 : Dev nD) : Nat :=
  let c0_i32_1820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1819 : BitVec 32 := 1#32
  let v1441 : BitVec 32 := Scalar.muli v20 c1_i32_1819
  let v1442 : BitVec 32 := Scalar.addi c0_i32_1820 v1441
  v1442.toNat
def k0_off108 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c1408_i32_1850 : BitVec 32 := 1408#32
  ![v82.toNat, 1408]
def k0_dev63 (d0 : Dev nD) : Nat :=
  let c0_i32_1849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1848 : BitVec 32 := 1#32
  let v1459 : BitVec 32 := Scalar.muli v15 c1_i32_1848
  let v1460 : BitVec 32 := Scalar.addi c0_i32_1849 v1459
  v1460.toNat
def k0_off109 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c384_i32_27 : BitVec 32 := 384#32
  let v45 : BitVec 32 := Scalar.muli v9 c384_i32_27
  let v46 : BitVec 32 := Scalar.subi v44 v45
  let c0_i32_1879 : BitVec 32 := 0#32
  ![v46.toNat, 0]
def k0_dev64 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1877 : BitVec 32 := 1#32
  let v1477 : BitVec 32 := Scalar.muli v15 c1_i32_1877
  let v1478 : BitVec 32 := Scalar.addi c0_i32_1878 v1477
  v1478.toNat
def k0_off110 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c384_i32_40 : BitVec 32 := 384#32
  let v64 : BitVec 32 := Scalar.muli v11 c384_i32_40
  let v65 : BitVec 32 := Scalar.subi v63 v64
  let c512_i32_1908 : BitVec 32 := 512#32
  ![v65.toNat, 512]
def k0_dev65 (d0 : Dev nD) : Nat :=
  let c0_i32_1907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1906 : BitVec 32 := 1#32
  let v1495 : BitVec 32 := Scalar.muli v18 c1_i32_1906
  let v1496 : BitVec 32 := Scalar.addi c0_i32_1907 v1495
  v1496.toNat
def k0_off111 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c384_i32_53 : BitVec 32 := 384#32
  let v83 : BitVec 32 := Scalar.muli v7 c384_i32_53
  let v84 : BitVec 32 := Scalar.subi v82 v83
  let c1024_i32_1937 : BitVec 32 := 1024#32
  ![v84.toNat, 1024]
def k0_dev66 (d0 : Dev nD) : Nat :=
  let c0_i32_1936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_1935 : BitVec 32 := 1#32
  let v1513 : BitVec 32 := Scalar.muli v20 c1_i32_1935
  let v1514 : BitVec 32 := Scalar.addi c0_i32_1936 v1513
  v1514.toNat
def k0_off112 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c384_i32_27 : BitVec 32 := 384#32
  let v45 : BitVec 32 := Scalar.muli v9 c384_i32_27
  let v46 : BitVec 32 := Scalar.subi v44 v45
  let c128_i32_1966 : BitVec 32 := 128#32
  ![v46.toNat, 128]
def k0_dev67 (d0 : Dev nD) : Nat :=
  let c0_i32_1965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_1964 : BitVec 32 := 1#32
  let v1531 : BitVec 32 := Scalar.muli v15 c1_i32_1964
  let v1532 : BitVec 32 := Scalar.addi c0_i32_1965 v1531
  v1532.toNat
def k0_off113 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c384_i32_40 : BitVec 32 := 384#32
  let v64 : BitVec 32 := Scalar.muli v11 c384_i32_40
  let v65 : BitVec 32 := Scalar.subi v63 v64
  let c640_i32_1995 : BitVec 32 := 640#32
  ![v65.toNat, 640]
def k0_dev68 (d0 : Dev nD) : Nat :=
  let c0_i32_1994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_1993 : BitVec 32 := 1#32
  let v1549 : BitVec 32 := Scalar.muli v18 c1_i32_1993
  let v1550 : BitVec 32 := Scalar.addi c0_i32_1994 v1549
  v1550.toNat
def k0_off114 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c384_i32_53 : BitVec 32 := 384#32
  let v83 : BitVec 32 := Scalar.muli v7 c384_i32_53
  let v84 : BitVec 32 := Scalar.subi v82 v83
  let c1152_i32_2024 : BitVec 32 := 1152#32
  ![v84.toNat, 1152]
def k0_dev69 (d0 : Dev nD) : Nat :=
  let c0_i32_2023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_2022 : BitVec 32 := 1#32
  let v1567 : BitVec 32 := Scalar.muli v20 c1_i32_2022
  let v1568 : BitVec 32 := Scalar.addi c0_i32_2023 v1567
  v1568.toNat
def k0_off115 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c384_i32_27 : BitVec 32 := 384#32
  let v45 : BitVec 32 := Scalar.muli v9 c384_i32_27
  let v46 : BitVec 32 := Scalar.subi v44 v45
  let c256_i32_2053 : BitVec 32 := 256#32
  ![v46.toNat, 256]
def k0_dev70 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_2051 : BitVec 32 := 1#32
  let v1585 : BitVec 32 := Scalar.muli v15 c1_i32_2051
  let v1586 : BitVec 32 := Scalar.addi c0_i32_2052 v1585
  v1586.toNat
def k0_off116 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c384_i32_40 : BitVec 32 := 384#32
  let v64 : BitVec 32 := Scalar.muli v11 c384_i32_40
  let v65 : BitVec 32 := Scalar.subi v63 v64
  let c768_i32_2082 : BitVec 32 := 768#32
  ![v65.toNat, 768]
def k0_dev71 (d0 : Dev nD) : Nat :=
  let c0_i32_2081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_2080 : BitVec 32 := 1#32
  let v1603 : BitVec 32 := Scalar.muli v18 c1_i32_2080
  let v1604 : BitVec 32 := Scalar.addi c0_i32_2081 v1603
  v1604.toNat
def k0_off117 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c384_i32_53 : BitVec 32 := 384#32
  let v83 : BitVec 32 := Scalar.muli v7 c384_i32_53
  let v84 : BitVec 32 := Scalar.subi v82 v83
  let c1280_i32_2111 : BitVec 32 := 1280#32
  ![v84.toNat, 1280]
def k0_dev72 (d0 : Dev nD) : Nat :=
  let c0_i32_2110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_2109 : BitVec 32 := 1#32
  let v1621 : BitVec 32 := Scalar.muli v20 c1_i32_2109
  let v1622 : BitVec 32 := Scalar.addi c0_i32_2110 v1621
  v1622.toNat
def k0_off118 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c768_i32 : BitVec 32 := 768#32
  let v28 : BitVec 32 := Scalar.muli v7 c768_i32
  let v29 : BitVec 32 := Scalar.addi c0_i32_18 v28
  let c2_i32_1 : BitVec 32 := 2#32
  let v8 : BitVec 1 := Scalar.cmpi .sge v3 c2_i32_1
  let v9 : BitVec 32 := Scalar.extui v8
  let c384_i32 : BitVec 32 := 384#32
  let v33 : BitVec 32 := Scalar.muli v9 c384_i32
  let v34 : BitVec 32 := Scalar.addi v29 v33
  let c4_i32_2 : BitVec 32 := 4#32
  let v10 : BitVec 1 := Scalar.cmpi .sge v2 c4_i32_2
  let v11 : BitVec 32 := Scalar.extui v10
  let c192_i32 : BitVec 32 := 192#32
  let v38 : BitVec 32 := Scalar.muli v11 c192_i32
  let v39 : BitVec 32 := Scalar.addi v34 v38
  let c192_i32_26 : BitVec 32 := 192#32
  let v43 : BitVec 32 := Scalar.muli v11 c192_i32_26
  let v44 : BitVec 32 := Scalar.subi v39 v43
  let c384_i32_27 : BitVec 32 := 384#32
  let v45 : BitVec 32 := Scalar.muli v9 c384_i32_27
  let v46 : BitVec 32 := Scalar.subi v44 v45
  let c384_i32_2140 : BitVec 32 := 384#32
  ![v46.toNat, 384]
def k0_dev73 (d0 : Dev nD) : Nat :=
  let c0_i32_2139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 32 := Scalar.addi v2 c1_i32_3
  let c2_i32_5 : BitVec 32 := 2#32
  let c2_i32_4 : BitVec 32 := 2#32
  let v13 : BitVec 32 := Scalar.remsi v2 c2_i32_4
  let v14 : BitVec 32 := Scalar.muli c2_i32_5 v13
  let v15 : BitVec 32 := Scalar.subi v12 v14
  let c1_i32_2138 : BitVec 32 := 1#32
  let v1639 : BitVec 32 := Scalar.muli v15 c1_i32_2138
  let v1640 : BitVec 32 := Scalar.addi c0_i32_2139 v1639
  v1640.toNat
def k0_off119 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_1 : BitVec 32 := 2#32
  let v8 : BitVec 1 := Scalar.cmpi .sge v3 c2_i32_1
  let v9 : BitVec 32 := Scalar.extui v8
  let c768_i32_28 : BitVec 32 := 768#32
  let v47 : BitVec 32 := Scalar.muli v9 c768_i32_28
  let v48 : BitVec 32 := Scalar.addi c0_i32_29 v47
  let c4_i32_2 : BitVec 32 := 4#32
  let v10 : BitVec 1 := Scalar.cmpi .sge v2 c4_i32_2
  let v11 : BitVec 32 := Scalar.extui v10
  let c384_i32_33 : BitVec 32 := 384#32
  let v52 : BitVec 32 := Scalar.muli v11 c384_i32_33
  let v53 : BitVec 32 := Scalar.addi v48 v52
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c192_i32_36 : BitVec 32 := 192#32
  let v57 : BitVec 32 := Scalar.muli v7 c192_i32_36
  let v58 : BitVec 32 := Scalar.addi v53 v57
  let c192_i32_39 : BitVec 32 := 192#32
  let v62 : BitVec 32 := Scalar.muli v7 c192_i32_39
  let v63 : BitVec 32 := Scalar.subi v58 v62
  let c384_i32_40 : BitVec 32 := 384#32
  let v64 : BitVec 32 := Scalar.muli v11 c384_i32_40
  let v65 : BitVec 32 := Scalar.subi v63 v64
  let c896_i32_2169 : BitVec 32 := 896#32
  ![v65.toNat, 896]
def k0_dev74 (d0 : Dev nD) : Nat :=
  let c0_i32_2168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32 : BitVec 32 := 4#32
  let v3 : BitVec 32 := Scalar.remsi v2 c4_i32
  let v17 : BitVec 32 := Scalar.muli c2_i32_6 v3
  let v18 : BitVec 32 := Scalar.subi v16 v17
  let c1_i32_2167 : BitVec 32 := 1#32
  let v1657 : BitVec 32 := Scalar.muli v18 c1_i32_2167
  let v1658 : BitVec 32 := Scalar.addi c0_i32_2168 v1657
  v1658.toNat
def k0_off120 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v10 : BitVec 1 := Scalar.cmpi .sge v2 c4_i32_2
  let v11 : BitVec 32 := Scalar.extui v10
  let c768_i32_41 : BitVec 32 := 768#32
  let v66 : BitVec 32 := Scalar.muli v11 c768_i32_41
  let v67 : BitVec 32 := Scalar.addi c0_i32_42 v66
  let c4_i32 : BitVec 32 := 4#32
  let v3 : BitVec 32 := Scalar.remsi v2 c4_i32
  let c1_i32_0 : BitVec 32 := 1#32
  let v4 : BitVec 1 := Scalar.cmpi .sge v3 c1_i32_0
  let c2_i32 : BitVec 32 := 2#32
  let v5 : BitVec 1 := Scalar.cmpi .sle v3 c2_i32
  let v6 : BitVec 1 := Scalar.andi v4 v5
  let v7 : BitVec 32 := Scalar.extui v6
  let c384_i32_46 : BitVec 32 := 384#32
  let v71 : BitVec 32 := Scalar.muli v7 c384_i32_46
  let v72 : BitVec 32 := Scalar.addi v67 v71
  let c2_i32_1 : BitVec 32 := 2#32
  let v8 : BitVec 1 := Scalar.cmpi .sge v3 c2_i32_1
  let v9 : BitVec 32 := Scalar.extui v8
  let c192_i32_49 : BitVec 32 := 192#32
  let v76 : BitVec 32 := Scalar.muli v9 c192_i32_49
  let v77 : BitVec 32 := Scalar.addi v72 v76
  let c192_i32_52 : BitVec 32 := 192#32
  let v81 : BitVec 32 := Scalar.muli v9 c192_i32_52
  let v82 : BitVec 32 := Scalar.subi v77 v81
  let c384_i32_53 : BitVec 32 := 384#32
  let v83 : BitVec 32 := Scalar.muli v7 c384_i32_53
  let v84 : BitVec 32 := Scalar.subi v82 v83
  let c1408_i32_2198 : BitVec 32 := 1408#32
  ![v84.toNat, 1408]
def k0_dev75 (d0 : Dev nD) : Nat :=
  let c0_i32_2197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_2196 : BitVec 32 := 1#32
  let v1675 : BitVec 32 := Scalar.muli v20 c1_i32_2196
  let v1676 : BitVec 32 := Scalar.addi c0_i32_2197 v1675
  v1676.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1536x6144, .bf16⟩
  | .hbm, ⟨1, _⟩ => ⟨S6144x1536, .bf16⟩
  | .hbm, ⟨2, _⟩ => ⟨S1536x1536, .f32⟩
  | .hbm, ⟨3, _⟩ => ⟨S1536x1536, .bf16⟩
  | .hbm, ⟨4, _⟩ => ⟨S_, .bf16⟩
  | .hbm, ⟨5, _⟩ => ⟨S1536x1536, .bf16⟩
  | .hbm, ⟨6, _⟩ => ⟨S1536x1536, .bf16⟩
  | _, _ => ⟨S1536x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Steps.lean ====
module

public import proofs.«01_k».proof.Proof.Gen.KernelIdeal
public import proofs.«01_k».proof.Proof.Gen.KernelIdeal.Skeleton
public import Idealize.ShloMosaic.Lib.Pipeline.Regions

/-!
# The kernel's body as a list of steps

The printed body is a straight line of some four hundred operations: the same seven kinds of step, over twelve lanes (three
column groups of four chunks each), three reduction steps and three gathering steps. This module states it as loops of those
steps over tables of the printed offsets and devices, and that the printed body is these loops.
-/

@[expose] public section

noncomputable section

namespace Cert.KernelIdeal.Steps

open Cert.KernelIdeal Cert.KernelIdeal.Gen
open Idealize.ShloMosaic Idealize.ShloMosaic.TcCoe
open Idealize.SL Idealize.SL.Sem

variable {F : FTy → Type} [FloatOps F]

/-! ## The tables -/

/-- Where the block that lane `(g, c)` sends at reduction step `s` starts, in the accumulator of device `d`. -/
def rsSrc : Fin 3 → Fin 3 → Fin 4 → Dev nD → Fin 2 → ℕ :=
  ![![![k0_off3, k0_off4, k0_off5, k0_off6],
      ![k0_off9, k0_off10, k0_off11, k0_off12],
      ![k0_off15, k0_off16, k0_off17, k0_off18]],
    ![![k0_off26, k0_off32, k0_off38, k0_off44],
      ![k0_off28, k0_off34, k0_off40, k0_off46],
      ![k0_off30, k0_off36, k0_off42, k0_off48]],
    ![![k0_off50, k0_off56, k0_off62, k0_off68],
      ![k0_off52, k0_off58, k0_off64, k0_off70],
      ![k0_off54, k0_off60, k0_off66, k0_off72]]]

/-- Where the block that lane `(g, c)` keeps at reduction step `s`, and adds the block received to, starts. -/
def rsAcc : Fin 3 → Fin 3 → Fin 4 → Dev nD → Fin 2 → ℕ :=
  ![![![k0_off25, k0_off31, k0_off37, k0_off43],
      ![k0_off27, k0_off33, k0_off39, k0_off45],
      ![k0_off29, k0_off35, k0_off41, k0_off47]],
    ![![k0_off49, k0_off55, k0_off61, k0_off67],
      ![k0_off51, k0_off57, k0_off63, k0_off69],
      ![k0_off53, k0_off59, k0_off65, k0_off71]],
    ![![k0_off73, k0_off79, k0_off85, k0_off91],
      ![k0_off75, k0_off81, k0_off87, k0_off93],
      ![k0_off77, k0_off83, k0_off89, k0_off95]]]

/-- Where the block that lane `(g, c)` sends at gathering step `s` starts, in the result of device `d` and of its partner alike. -/
def agOut : Fin 3 → Fin 3 → Fin 4 → Dev nD → Fin 2 → ℕ :=
  ![![![k0_off74, k0_off80, k0_off86, k0_off92],
      ![k0_off76, k0_off82, k0_off88, k0_off94],
      ![k0_off78, k0_off84, k0_off90, k0_off96]],
    ![![k0_off97, k0_off100, k0_off103, k0_off106],
      ![k0_off98, k0_off101, k0_off104, k0_off107],
      ![k0_off99, k0_off102, k0_off105, k0_off108]],
    ![![k0_off109, k0_off112, k0_off115, k0_off118],
      ![k0_off110, k0_off113, k0_off116, k0_off119],
      ![k0_off111, k0_off114, k0_off117, k0_off120]]]

/-- The device lane `(g, c)` sends to at reduction step `s`. -/
def rsDev : Fin 3 → Fin 3 → Fin 4 → Dev nD → ℕ :=
  ![![![k0_dev4, k0_dev5, k0_dev6, k0_dev7],
      ![k0_dev8, k0_dev9, k0_dev10, k0_dev11],
      ![k0_dev12, k0_dev13, k0_dev14, k0_dev15]],
    ![![k0_dev16, k0_dev19, k0_dev22, k0_dev25],
      ![k0_dev17, k0_dev20, k0_dev23, k0_dev26],
      ![k0_dev18, k0_dev21, k0_dev24, k0_dev27]],
    ![![k0_dev28, k0_dev31, k0_dev34, k0_dev37],
      ![k0_dev29, k0_dev32, k0_dev35, k0_dev38],
      ![k0_dev30, k0_dev33, k0_dev36, k0_dev39]]]

/-- The device lane `(g, c)` sends to at gathering step `s`. -/
def agDev : Fin 3 → Fin 3 → Fin 4 → Dev nD → ℕ :=
  ![![![k0_dev40, k0_dev43, k0_dev46, k0_dev49],
      ![k0_dev41, k0_dev44, k0_dev47, k0_dev50],
      ![k0_dev42, k0_dev45, k0_dev48, k0_dev51]],
    ![![k0_dev52, k0_dev55, k0_dev58, k0_dev61],
      ![k0_dev53, k0_dev56, k0_dev59, k0_dev62],
      ![k0_dev54, k0_dev57, k0_dev60, k0_dev63]],
    ![![k0_dev64, k0_dev67, k0_dev70, k0_dev73],
      ![k0_dev65, k0_dev68, k0_dev71, k0_dev74],
      ![k0_dev66, k0_dev69, k0_dev72, k0_dev75]]]

/-- A block of `n` rows of one lane's 128 columns. -/
abbrev blk (n : ℕ) : Shape := ⟨2, ![n, 128]⟩

/-- The rows of a block that reduction step `s` sends. -/
def half : Fin 3 → ℕ := ![768, 384, 192]
/-- The rows of a block that gathering step `s` sends. -/
def size : Fin 3 → ℕ := ![192, 384, 768]
/-- Where reduction step `s` lands, in the rows of the receive buffer. -/
def recvRow : Fin 3 → ℕ := ![0, 768, 1152]
/-- Where the block that lane `(g, c)` receives at reduction step `s` lands, in the receive buffer. -/
def rsDst (s g : Fin 3) (c : Fin 4) : Fin 2 → ℕ := ![recvRow s, 512 * g + 128 * c]

/-- The semaphore raised at the sender when its reduction step is sent, then received at the peer; and of the gathering steps. -/
def rsSend (s g : Fin 3) (c : Fin 4) : DmaSem sig := ⟨3 + (12 * s + 4 * g + c), by change _ < 147; omega⟩
def rsRecv (s g : Fin 3) (c : Fin 4) : DmaSem sig := ⟨39 + (12 * s + 4 * g + c), by change _ < 147; omega⟩
def agSend (s g : Fin 3) (c : Fin 4) : DmaSem sig := ⟨75 + (12 * s + 4 * g + c), by change _ < 147; omega⟩
def agRecv (s g : Fin 3) (c : Fin 4) : DmaSem sig := ⟨111 + (12 * s + 4 * g + c), by change _ < 147; omega⟩

/-! ## The tables fit the buffers -/

theorem rsSrc_inb : ∀ s g c d, ∀ a, rsSrc s g c d a + (blk (half s)).size a ≤ S1536x1536.size a := by decide +kernel
theorem rsAcc_inb : ∀ s g c d, ∀ a, rsAcc s g c d a + (blk (half s)).size a ≤ S1536x1536.size a := by decide +kernel
theorem agOut_inb : ∀ s g c d, ∀ a, agOut s g c d a + (blk (size s)).size a ≤ S1536x1536.size a := by decide +kernel
theorem rsDst_inb : ∀ s g c, ∀ a, rsDst s g c a + (blk (half s)).size a ≤ S1344x1536.size a := by decide +kernel
theorem rsDev_lt : ∀ s g c d, rsDev s g c d < nD := by decide +kernel
theorem agDev_lt : ∀ s g c d, agDev s g c d < nD := by decide +kernel
theorem rsSrc_words : ∀ s g c d, (Rect.unit (s := S1536x1536) (rsSrc s g c d) (blk (half s)).size (rsSrc_inb s g c d)).WholeWords (EltTy.packing .bf16) := by
  decide +kernel
theorem rsDst_words : ∀ s g c, (Rect.unit (s := S1344x1536) (rsDst s g c) (blk (half s)).size (rsDst_inb s g c)).WholeWords (EltTy.packing .bf16) := by
  decide +kernel
theorem agOut_words : ∀ s g c d, (Rect.unit (s := S1536x1536) (agOut s g c d) (blk (size s)).size (agOut_inb s g c d)).WholeWords (EltTy.packing .bf16) := by
  decide +kernel
theorem rsAcc_packed : ∀ s g c d, (Rect.unit (s := S1536x1536) (rsAcc s g c d) (blk (half s)).size (rsAcc_inb s g c d)).PackedRows (EltTy.packing .bf16) := by
  decide +kernel
theorem blk_pos : ∀ s, 0 < (blk (half s)).numel := by decide +kernel

/-- The rectangles. -/
abbrev srcRect (s g : Fin 3) (c : Fin 4) (d : Dev nD) : Rect S1536x1536 := Rect.unit (rsSrc s g c d) (blk (half s)).size (rsSrc_inb s g c d)
abbrev accRect (s g : Fin 3) (c : Fin 4) (d : Dev nD) : Rect S1536x1536 := Rect.unit (rsAcc s g c d) (blk (half s)).size (rsAcc_inb s g c d)
abbrev dstRect (s g : Fin 3) (c : Fin 4) : Rect S1344x1536 := Rect.unit (rsDst s g c) (blk (half s)).size (rsDst_inb s g c)
abbrev outRect (s g : Fin 3) (c : Fin 4) (d : Dev nD) : Rect S1536x1536 := Rect.unit (agOut s g c d) (blk (size s)).size (agOut_inb s g c d)

/-! ## The steps, each followed by the rest of the program -/

abbrev aM : Memref sig .tc .vmem S1536x768 .bf16 := Memref.whole cc0_stg0_0
abbrev bM : Memref sig .tc .vmem S768x1536 .bf16 := Memref.whole cc0_stg1_0
abbrev oM : Memref sig .tc .vmem S1536x1536 .bf16 := Memref.whole cc0_stg2_0
abbrev cM : Memref sig .tc .vmem S1536x1536 .bf16 := Memref.whole cc0_scratch0
abbrev rM : Memref sig .tc .vmem S1344x1536 .bf16 := Memref.whole cc0_scratch1

abbrev PR (F : FTy → Type) [FloatOps F] : Type 1 := Prog (TpuEff nD τ sig (Elt F) Λ₀ .tc) PUnit

/-- The blocks as the copies name them. -/
abbrev srcM (s g : Fin 3) (c : Fin 4) (d : Dev nD) : Memref sig .tc .vmem (blk (half s)) .bf16 := cM.slice (srcRect s g c d) (fun _ => rfl)
abbrev dstM (s g : Fin 3) (c : Fin 4) : Memref sig .tc .vmem (blk (half s)) .bf16 := rM.slice (dstRect s g c) (fun _ => rfl)
abbrev outM (s g : Fin 3) (c : Fin 4) (d : Dev nD) : Memref sig .tc .vmem (blk (size s)) .bf16 := oM.slice (outRect s g c d) (fun _ => rfl)

theorem srcM_words (s g : Fin 3) (c : Fin 4) (d : Dev nD) : (srcM s g c d).view.WordExact :=
  (Memref.isWhole_whole cc0_scratch0).wordExact_slice rfl _ (rsSrc_words s g c d)
theorem dstM_words (s g : Fin 3) (c : Fin 4) : (dstM s g c).view.WordExact :=
  (Memref.isWhole_whole cc0_scratch1).wordExact_slice rfl _ (rsDst_words s g c)
theorem outM_words (s g : Fin 3) (c : Fin 4) (d : Dev nD) : (outM s g c d).view.WordExact :=
  (Memref.isWhole_whole cc0_stg2_0).wordExact_slice rfl _ (agOut_words s g c d)

/-- Send lane `(g, c)`'s block of reduction step `s`. -/
def sendRs (d : Dev nD) (s g : Fin 3) (c : Fin 4) (k : PR F) : PR F :=
  .op (.enqueueDma (srcM s g c d) (.remote (Dev.tc (⟨rsDev s g c d, rsDev_lt s g c d⟩ : Dev nD)) (dstM s g c) (.dma (rsSend s g c))) (.dma (rsRecv s g c))
    (srcM_words s g c d) (dstM_words s g c) ⟨⟨rfl, Or.inl rfl⟩, trivial⟩) fun _ => k

/-- Wait until lane `(g, c)`'s block of reduction step `s` has gone out, and until the peer's has come in. -/
def waitRs (d : Dev nD) (s g : Fin 3) (c : Fin 4) (k : PR F) : PR F :=
  .op (.waitDma2 (rsSend s g c) (dstM s g c) (srcM s g c d) (dstM_words s g c) (srcM_words s g c d)) fun _ =>
  .op (.waitDma2 (rsRecv s g c) (srcM s g c d) (dstM s g c) (srcM_words s g c d) (dstM_words s g c)) fun _ => k

/-- Send lane `(g, c)`'s block of gathering step `s`. -/
def sendAg (d : Dev nD) (s g : Fin 3) (c : Fin 4) (k : PR F) : PR F :=
  .op (.enqueueDma (outM s g c d) (.remote (Dev.tc (⟨agDev s g c d, agDev_lt s g c d⟩ : Dev nD)) (outM s g c d) (.dma (agSend s g c))) (.dma (agRecv s g c))
    (outM_words s g c d) (outM_words s g c d) ⟨⟨rfl, Or.inl rfl⟩, trivial⟩) fun _ => k

/-- Wait until lane `(g, c)`'s block of gathering step `s` has gone out, and until the peer's has come in. -/
def waitAg (d : Dev nD) (s g : Fin 3) (c : Fin 4) (k : PR F) : PR F :=
  .op (.waitDma2 (agSend s g c) (outM s g c d) (outM s g c d) (outM_words s g c d) (outM_words s g c d)) fun _ =>
  .op (.waitDma2 (agRecv s g c) (outM s g c d) (outM s g c d) (outM_words s g c d) (outM_words s g c d)) fun _ => k

/-- The sum of the block kept and the block received. -/
def addPay (s : Fin 3) (x y : Vec F (blk (half s)) .bf16) : FVec F (blk (half s)) .bf16 := shapeCast (blk (half s)) (addf x y) rfl

/-- Add the block received at reduction step `s` to the block kept. -/
def accum (d : Dev nD) (s g : Fin 3) (c : Fin 4) (k : PR F) : PR F :=
  .op (.load cM (accRect s g c d).toLoadRect (View.loadsAt_vmem (blk_pos s))) fun (x : Vec F (blk (half s)) .bf16) =>
  .op (.load rM (dstRect s g c).toLoadRect (View.loadsAt_vmem (blk_pos s))) fun (y : Vec F (blk (half s)) .bf16) =>
  .op (.load cM (accRect s g c d).toLoadRect (View.loadsAt_vmem (blk_pos s))) fun _ =>
  .op (.store cM (accRect s g c d) (addPay s x y) Finset.univ
    (View.stores_vmem (blk_pos s) ((Memref.isWhole_whole cc0_scratch0).storeExact_slice rfl _ (rsAcc_packed s g c d)) (fun _ => rfl)) (.inl rfl)) fun _ => k

/-- Write the reduced block, its negative entries zeroed, to the result. -/
def relu (d : Dev nD) (g : Fin 3) (c : Fin 4) (k : PR F) : PR F :=
  .op (.load cM (accRect 2 g c d).toLoadRect (View.loadsAt_vmem (blk_pos 2))) fun (x : Vec F (blk 192) .bf16) =>
  .op (.load oM (accRect 2 g c d).toLoadRect (View.loadsAt_vmem (blk_pos 2))) fun _ =>
  .op (.store oM (accRect 2 g c d) (k0_pay37 x) Finset.univ
    (View.stores_vmem (blk_pos 2) ((Memref.isWhole_whole cc0_stg2_0).storeExact_slice rfl _ (rsAcc_packed 2 g c d)) (fun _ => rfl)) (.inl rfl)) fun _ => k

/-- The product of 768 of this device's rows by its columns of group `g`. -/
def dotPay (g : Fin 3) (y : Vec F S768x1536 .bf16) (x : Vec F S768x768 .bf16) : FVec F S768x512 .bf16 :=
  match g with
  | 0 => k0_pay2 y x
  | 1 => k0_pay3 (k0_pay1 y) x
  | 2 => k0_pay4 (k0_pay1 y) x

/-- Where the two halves of the rows of group `g` start, in `A` (the half sent first for `i = 0`, the half kept for `i = 1`), -/
def aOff : Fin 2 → Fin 3 → Dev nD → Fin 2 → ℕ := ![![k0_off1, k0_off7, k0_off13], ![k0_off19, k0_off21, k0_off23]]
/-- and in the accumulator. -/
def cOff : Fin 2 → Fin 3 → Dev nD → Fin 2 → ℕ := ![![k0_off2, k0_off8, k0_off14], ![k0_off20, k0_off22, k0_off24]]

theorem aOff_inb : ∀ i g d, ∀ a, aOff i g d a + S768x768.size a ≤ S1536x768.size a := by decide +kernel
theorem cOff_inb : ∀ i g d, ∀ a, cOff i g d a + S768x512.size a ≤ S1536x1536.size a := by decide +kernel
theorem cOff_packed : ∀ i g d, (Rect.unit (s := S1536x1536) (cOff i g d) S768x512.size (cOff_inb i g d)).PackedRows (EltTy.packing .bf16) := by decide +kernel

abbrev aRect (i : Fin 2) (g : Fin 3) (d : Dev nD) : Rect S1536x768 := Rect.unit (aOff i g d) S768x768.size (aOff_inb i g d)
abbrev cRect (i : Fin 2) (g : Fin 3) (d : Dev nD) : Rect S1536x1536 := Rect.unit (cOff i g d) S768x512.size (cOff_inb i g d)

/-- Write the half `i` of group `g`'s partial product to the accumulator. -/
def dot (d : Dev nD) (y : Vec F S768x1536 .bf16) (i : Fin 2) (g : Fin 3) (k : PR F) : PR F :=
  .op (.load aM (aRect i g d).toLoadRect (View.loadsAt_vmem h_S768x768)) fun (x : Vec F S768x768 .bf16) =>
  .op (.load cM (cRect i g d).toLoadRect (View.loadsAt_vmem h_S768x512)) fun _ =>
  .op (.store cM (cRect i g d) (dotPay g y x) Finset.univ
    (View.stores_vmem h_S768x512 ((Memref.isWhole_whole cc0_scratch0).storeExact_slice rfl _ (cOff_packed i g d)) (fun _ => rfl)) (.inl rfl)) fun _ => k

/-! ## The body -/

/-- A step for each member of a list, in order. -/
def each {α : Type} (l : List α) (f : α → PR F → PR F) (k : PR F) : PR F := l.foldr f k

abbrev Lane : Type := Fin 3 × Fin 4
/-- The lanes in the order the kernel serves them: chunk by chunk, the three groups in turn. -/
def lanes : List Lane := [(0, 0), (1, 0), (2, 0), (0, 1), (1, 1), (2, 1), (0, 2), (1, 2), (2, 2), (0, 3), (1, 3), (2, 3)]

/-- The body after the barrier and the load of `B`. -/
def main (d : Dev nD) (y : Vec F S768x1536 .bf16) : PR F :=
  each [0, 1, 2] (fun g k => dot d y 0 g (each [0, 1, 2, 3] (fun c k => sendRs d 0 g c k) k)) <|
  each [0, 1, 2] (fun g k => dot d y 1 g k) <|
  each [(0, 1), (1, 2)] (fun s k => each lanes (fun l k => waitRs d s.1 l.1 l.2 (accum d s.1 l.1 l.2 (sendRs d s.2 l.1 l.2 k))) k) <|
  each lanes (fun l k => waitRs d 2 l.1 l.2 (accum d 2 l.1 l.2 (relu d l.1 l.2 (sendAg d 0 l.1 l.2 k)))) <|
  each [(0, 1), (1, 2)] (fun s k => each lanes (fun l k => waitAg d s.1 l.1 l.2 (sendAg d s.2 l.1 l.2 k)) k) <|
  each lanes (fun l k => waitAg d 2 l.1 l.2 k) <|
  .ret ⟨⟩

/-- The whole body: tell the three partners that this device is here, wait for all three, load `B`, run the steps. -/
def body : PR F :=
  .op .deviceId fun d =>
  .op (.semSignal (Dev.tc (⟨k0_dev1 d, k0_dev1_lt d⟩ : Dev nD)) (sig.barrier 0 rfl) 1) fun _ =>
  .op (.semSignal (Dev.tc (⟨k0_dev2 d, k0_dev2_lt d⟩ : Dev nD)) (sig.barrier 0 rfl) 1) fun _ =>
  .op (.semSignal (Dev.tc (⟨k0_dev3 d, k0_dev3_lt d⟩ : Dev nD)) (sig.barrier 0 rfl) 1) fun _ =>
  .op (.semWait (sig.barrier 0 rfl) 3) fun _ =>
  .op (.load bM (Rect.unit (s := S768x1536) ![0, 0] S768x1536.size inb_S768x1536_S768x1536_0_0).toLoadRect (View.loadsAt_vmem h_S768x1536))
    fun (y : Vec F S768x1536 .bf16) => main d y

/-- The printed body is this one. -/
theorem body_eq : cc0_body (F := F) aM (Memref.isWhole_whole _) bM (Memref.isWhole_whole _) oM (Memref.isWhole_whole _) cM (Memref.isWhole_whole _)
    rM (Memref.isWhole_whole _) cc0_scratch2 cc0_scratch3 cc0_scratch4 cc0_scratch5 = body := by chain_rfl

end Cert.KernelIdeal.Steps
-- ==== Proof.Geom.lean ====
module

public import proofs.«01_k».proof.Proof.Steps

/-!
# Where the blocks lie

The partners of a device, the block of rows each lane holds after each reduction step, the tables of `Steps` in closed form, and
how the blocks of a buffer split and join.
-/

@[expose] public section

namespace Cert.KernelIdeal.Geom

open Cert.KernelIdeal Cert.KernelIdeal.Gen Cert.KernelIdeal.Steps
open Idealize.ShloMosaic Idealize.ShloMosaic.TcCoe

/-! ## Partners and rows -/

/-- The partner of device `d` along dimension `k` of the cube. -/
def partner : Fin 3 → Dev nD → Dev nD := ![![1, 0, 3, 2, 5, 4, 7, 6], ![3, 2, 1, 0, 7, 6, 5, 4], ![4, 5, 6, 7, 0, 1, 2, 3]]

theorem partner_partner : ∀ k d, partner k (partner k d) = d := by decide +kernel
theorem partner_ne : ∀ k d, partner k d ≠ d := by decide +kernel

/-- The partner of device `d` that group `g` exchanges with at reduction step `s`. -/
abbrev peer (s g : Fin 3) (d : Dev nD) : Dev nD := partner (g + s) d

theorem peer_peer (s g : Fin 3) (d : Dev nD) : peer s g (peer s g d) = d := partner_partner _ _

/-- Which half device `d` keeps along dimension `k`. -/
def bit (k : Fin 3) (d : Dev nD) : ℕ :=
  match k with
  | 0 => if 1 ≤ d.val % 4 ∧ d.val % 4 ≤ 2 then 1 else 0
  | 1 => if 2 ≤ d.val % 4 then 1 else 0
  | 2 => if 4 ≤ d.val then 1 else 0

/-- The rows of the block a lane still holds after `t` reduction steps, -/
def len : Fin 4 → ℕ := ![1536, 768, 384, 192]
/-- and where that block starts on device `d`, in group `g`. -/
def row (t : Fin 4) (g : Fin 3) (d : Dev nD) : ℕ :=
  match t with
  | 0 => 0
  | 1 => 768 * bit g d
  | 2 => 768 * bit g d + 384 * bit (g + 1) d
  | 3 => 768 * bit g d + 384 * bit (g + 1) d + 192 * bit (g + 2) d

/-- The first column of a lane. -/
abbrev col (g : Fin 3) (c : Fin 4) : ℕ := 512 * g + 128 * c

theorem row_le : ∀ t g d, row t g d + len t ≤ 1536 := by decide +kernel
theorem half_eq : ∀ s, half s = len s.succ := by decide +kernel
theorem size_eq : ∀ s, size s = len s.rev.succ := by decide +kernel

/-- A block's two halves: one device's and its partner's. -/
theorem row_halves : ∀ s g d,
    (row s.succ g d = row s.castSucc g d ∧ row s.succ g (peer s g d) = row s.castSucc g d + len s.succ
      ∨ row s.succ g (peer s g d) = row s.castSucc g d ∧ row s.succ g d = row s.castSucc g d + len s.succ)
    ∧ len s.castSucc = len s.succ + len s.succ ∧ row s.castSucc g (peer s g d) = row s.castSucc g d := by decide +kernel

/-! ## The tables in closed form -/

theorem rsAcc_eq : ∀ s g c d, rsAcc s g c d = ![row s.succ g d, col g c] := by decide +kernel
theorem rsSrc_eq : ∀ s g c d, rsSrc s g c d = ![row s.succ g (peer s g d), col g c] := by decide +kernel
theorem agOut_eq : ∀ s g c d, agOut s g c d = ![row s.rev.succ g d, col g c] := by decide +kernel
theorem rsDev_eq : ∀ s g c d, (⟨rsDev s g c d, rsDev_lt s g c d⟩ : Dev nD) = peer s g d := by decide +kernel
theorem agDev_eq : ∀ s g c d, (⟨agDev s g c d, agDev_lt s g c d⟩ : Dev nD) = peer s.rev g d := by decide +kernel
theorem dev1_eq : ∀ d, (⟨k0_dev1 d, k0_dev1_lt d⟩ : Dev nD) = partner 0 d := by decide +kernel
theorem dev2_eq : ∀ d, (⟨k0_dev2 d, k0_dev2_lt d⟩ : Dev nD) = partner 1 d := by decide +kernel
theorem dev3_eq : ∀ d, (⟨k0_dev3 d, k0_dev3_lt d⟩ : Dev nD) = partner 2 d := by decide +kernel

/-- The device whose half `i` of group `g` device `d` computes: its partner's first, to be sent, then its own. -/
def side (i : Fin 2) (g : Fin 3) (d : Dev nD) : Dev nD := if i = 0 then peer 0 g d else d

theorem aOff_eq : ∀ i g d, aOff i g d = ![row 1 g (side i g d), 0] := by decide +kernel
theorem cOff_eq : ∀ i g d, cOff i g d = ![row 1 g (side i g d), 512 * g] := by decide +kernel

/-! ## Blocks as sets of positions -/

/-- The rows `[r, r + h)` of the columns `[q, q + w)` of a buffer. -/
def box {M N : ℕ} (r h q w : ℕ) : Finset (⟨2, ![M, N]⟩ : Shape).Idx :=
  Finset.univ.filter fun i => (r ≤ (i 0 : ℕ) ∧ (i 0 : ℕ) < r + h) ∧ q ≤ (i 1 : ℕ) ∧ (i 1 : ℕ) < q + w

theorem mem_box {M N r h q w : ℕ} {i : (⟨2, ![M, N]⟩ : Shape).Idx} :
    i ∈ (box r h q w : Finset (⟨2, ![M, N]⟩ : Shape).Idx)
      ↔ (r ≤ (i 0 : ℕ) ∧ (i 0 : ℕ) < r + h) ∧ q ≤ (i 1 : ℕ) ∧ (i 1 : ℕ) < q + w := by
  unfold box; rw [Finset.mem_filter]; exact ⟨fun h => h.2, fun h => ⟨Finset.mem_univ _, h⟩⟩

/-- The positions of a rectangle. -/
theorem rect_set {M N r h q w : ℕ} {off : Fin 2 → ℕ} (inb) (ho : off = ![r, q]) :
    (Rect.unit (s := ⟨2, ![M, N]⟩) off ![h, w] inb).set = box r h q w := by
  subst ho
  ext i
  rw [Rect.mem_set_unit, mem_box]
  exact ⟨fun h => ⟨h 0, h 1⟩, fun h a => by fin_cases a; exacts [h.1, h.2]⟩

/-- The block lane `(g, c)` of device `d` holds after `t` reduction steps. -/
abbrev blkSet (t : Fin 4) (g : Fin 3) (c : Fin 4) (d : Dev nD) : Finset S1536x1536.Idx := box (row t g d) (len t) (col g c) 128
/-- Where the block received at reduction step `s` lies. -/
abbrev recvSet (s g : Fin 3) (c : Fin 4) : Finset S1344x1536.Idx := box (recvRow s) (half s) (col g c) 128
/-- A half of a group of the accumulator. -/
abbrev halfSet (i : Fin 2) (g : Fin 3) (d : Dev nD) : Finset S1536x1536.Idx := box (row 1 g (side i g d)) 768 (512 * g) 512

theorem set_src (s g : Fin 3) (c : Fin 4) (d : Dev nD) : (srcRect s g c d).set = blkSet s.succ g c (peer s g d) := by
  rw [blkSet, ← half_eq]; exact rect_set _ (rsSrc_eq s g c d)
theorem set_acc (s g : Fin 3) (c : Fin 4) (d : Dev nD) : (accRect s g c d).set = blkSet s.succ g c d := by
  rw [blkSet, ← half_eq]; exact rect_set _ (rsAcc_eq s g c d)
theorem set_dst (s g : Fin 3) (c : Fin 4) : (dstRect s g c).set = recvSet s g c := rect_set _ rfl
theorem set_out (s g : Fin 3) (c : Fin 4) (d : Dev nD) : (outRect s g c d).set = blkSet s.rev.succ g c d := by
  rw [blkSet, ← size_eq]; exact rect_set _ (agOut_eq s g c d)
theorem set_half (i : Fin 2) (g : Fin 3) (d : Dev nD) : (cRect i g d).set = halfSet i g d := rect_set _ (cOff_eq i g d)

/-- A block is its two halves, -/
theorem blk_split (s g : Fin 3) (c : Fin 4) (d : Dev nD) :
    blkSet s.castSucc g c d = blkSet s.succ g c d ∪ blkSet s.succ g c (peer s g d) := by
  obtain ⟨h, hl, -⟩ := row_halves s g d
  ext i; rw [Finset.mem_union, mem_box, mem_box, mem_box]; omega
/-- which do not meet. -/
theorem blk_disjoint (s g : Fin 3) (c : Fin 4) (d : Dev nD) : Disjoint (blkSet s.succ g c d) (blkSet s.succ g c (peer s g d)) := by
  obtain ⟨h, -, -⟩ := row_halves s g d
  rw [Finset.disjoint_left]; intro i hi hj; simp only [mem_box, col] at hi hj; omega

/-- The four chunks of a half of a group. -/
theorem half_chunks (i : Fin 2) (g : Fin 3) (d : Dev nD) :
    halfSet i g d = Finset.univ.biUnion fun c : Fin 4 => blkSet 1 g c (side i g d) := by
  have hl : len 1 = 768 := rfl
  ext j
  simp only [Finset.mem_biUnion, Finset.mem_univ, true_and, mem_box, col, hl]
  constructor
  · intro h; refine ⟨⟨((j 1 : ℕ) - 512 * g) / 128, by omega⟩, h.1, ?_⟩; simp only; omega
  · rintro ⟨c, h1, h2⟩; refine ⟨h1, ?_⟩; omega
theorem chunks_disjoint (t : Fin 4) (g : Fin 3) (d : Dev nD) :
    ∀ c ∈ (Finset.univ : Finset (Fin 4)), ∀ c' ∈ (Finset.univ : Finset (Fin 4)), c ≠ c' → Disjoint (blkSet t g c d) (blkSet t g c' d) := by
  intro c _ c' _ h
  rw [Finset.disjoint_left]; intro i hi hj; simp only [mem_box, col] at hi hj
  exact h (Fin.ext (by omega))

/-- The accumulator is the six halves of its three groups. -/
theorem halves_univ (d : Dev nD) :
    (Finset.univ : Finset S1536x1536.Idx) = (Finset.univ : Finset (Fin 2 × Fin 3)).biUnion fun p => halfSet p.1 p.2 d := by
  ext j
  have h0 : (j 0 : ℕ) < 1536 := (j 0).isLt
  have h1 : (j 1 : ℕ) < 1536 := (j 1).isLt
  simp only [Finset.mem_biUnion, Finset.mem_univ, true_iff, true_and, mem_box, col]
  have hg : (j 1 : ℕ) / 512 < 3 := by omega
  obtain ⟨h, hl, -⟩ := row_halves 0 ⟨(j 1 : ℕ) / 512, hg⟩ d
  have e1 : len (Fin.succ (0 : Fin 3)) = 768 := rfl
  have e2 : row (Fin.castSucc (0 : Fin 3)) ⟨(j 1 : ℕ) / 512, hg⟩ d = 0 := rfl
  rw [e1, e2] at h
  have e3 : Fin.succ (0 : Fin 3) = 1 := rfl
  rw [e3] at h
  have s0 : side 0 ⟨(j 1 : ℕ) / 512, hg⟩ d = peer 0 ⟨(j 1 : ℕ) / 512, hg⟩ d := rfl
  have s1 : side 1 ⟨(j 1 : ℕ) / 512, hg⟩ d = d := rfl
  by_cases hh : row 1 ⟨(j 1 : ℕ) / 512, hg⟩ d ≤ (j 0 : ℕ) ∧ (j 0 : ℕ) < row 1 ⟨(j 1 : ℕ) / 512, hg⟩ d + 768
  · refine ⟨(1, ⟨(j 1 : ℕ) / 512, hg⟩), ?_⟩; dsimp only; rw [s1]; omega
  · refine ⟨(0, ⟨(j 1 : ℕ) / 512, hg⟩), ?_⟩; dsimp only; rw [s0]; omega
theorem halves_disjoint (d : Dev nD) : ∀ p ∈ (Finset.univ : Finset (Fin 2 × Fin 3)), ∀ p' ∈ (Finset.univ : Finset (Fin 2 × Fin 3)),
    p ≠ p' → Disjoint (halfSet p.1 p.2 d) (halfSet p'.1 p'.2 d) := by
  rintro ⟨i, g⟩ _ ⟨i', g'⟩ _ h
  rw [Finset.disjoint_left]; intro j hj hj'; simp only [mem_box, col] at hj hj'
  have hg : g = g' := Fin.ext (by omega)
  subst hg
  obtain ⟨hr, -, -⟩ := row_halves 0 g d
  have e1 : len (Fin.succ (0 : Fin 3)) = 768 := rfl
  have e2 : row (Fin.castSucc (0 : Fin 3)) g d = 0 := rfl
  have e3 : Fin.succ (0 : Fin 3) = 1 := rfl
  rw [e1, e2, e3] at hr
  have s0 : side 0 g d = peer 0 g d := rfl
  have s1 : side 1 g d = d := rfl
  fin_cases i <;> fin_cases i' <;> first | exact absurd rfl h | (dsimp only at hj hj'; simp only [Fin.mk_zero, Fin.mk_one, Fin.zero_eta, s0, s1] at hj hj'; omega)

/-- A square buffer is its twelve lanes. -/
theorem lanes_univ (d : Dev nD) :
    (Finset.univ : Finset S1536x1536.Idx) = (Finset.univ : Finset Lane).biUnion fun l => blkSet 0 l.1 l.2 d := by
  ext j
  have h0 : (j 0 : ℕ) < 1536 := (j 0).isLt
  have h1 : (j 1 : ℕ) < 1536 := (j 1).isLt
  have e1 : len 0 = 1536 := rfl
  have e2 : ∀ g, row 0 g d = 0 := fun _ => rfl
  simp only [Finset.mem_biUnion, Finset.mem_univ, true_iff, true_and, mem_box, col, e1, e2]
  refine ⟨(⟨(j 1 : ℕ) / 512, by omega⟩, ⟨(j 1 : ℕ) % 512 / 128, by omega⟩), ?_⟩; dsimp only; omega
theorem lanes_disjoint (d : Dev nD) : ∀ l ∈ (Finset.univ : Finset Lane), ∀ l' ∈ (Finset.univ : Finset Lane),
    l ≠ l' → Disjoint (blkSet 0 l.1 l.2 d) (blkSet 0 l'.1 l'.2 d) := by
  rintro ⟨g, c⟩ _ ⟨g', c'⟩ _ h
  rw [Finset.disjoint_left]; intro j hj hj'; simp only [mem_box, col] at hj hj'
  have hg : g = g' := Fin.ext (by omega)
  subst hg
  exact h (congrArg _ (Fin.ext (by omega)))

/-- The receive buffer is the blocks of the three steps of its twelve lanes. -/
theorem recv_univ : (Finset.univ : Finset S1344x1536.Idx) = (Finset.univ : Finset (Lane × Fin 3)).biUnion fun p => recvSet p.2 p.1.1 p.1.2 := by
  ext j
  have h0 : (j 0 : ℕ) < 1344 := (j 0).isLt
  have h1 : (j 1 : ℕ) < 1536 := (j 1).isLt
  have hs : ∃ s : Fin 3, recvRow s ≤ (j 0 : ℕ) ∧ (j 0 : ℕ) < recvRow s + half s := by
    by_cases a : (j 0 : ℕ) < 768
    · exact ⟨0, Nat.zero_le _, by show _ < 0 + 768; omega⟩
    · by_cases b : (j 0 : ℕ) < 1152
      · exact ⟨1, by show 768 ≤ _; omega, by show _ < 768 + 384; omega⟩
      · exact ⟨2, by show 1152 ≤ _; omega, by show _ < 1152 + 192; omega⟩
  obtain ⟨s, hs⟩ := hs
  simp only [Finset.mem_biUnion, Finset.mem_univ, true_iff, true_and, mem_box, col]
  refine ⟨((⟨(j 1 : ℕ) / 512, by omega⟩, ⟨(j 1 : ℕ) % 512 / 128, by omega⟩), s), hs, ?_⟩; dsimp only; omega
theorem recvRow_apart : ∀ s s' : Fin 3, s ≠ s' → recvRow s + half s ≤ recvRow s' ∨ recvRow s' + half s' ≤ recvRow s := by decide +kernel
theorem recv_disjoint : ∀ p ∈ (Finset.univ : Finset (Lane × Fin 3)), ∀ p' ∈ (Finset.univ : Finset (Lane × Fin 3)),
    p ≠ p' → Disjoint (recvSet p.2 p.1.1 p.1.2) (recvSet p'.2 p'.1.1 p'.1.2) := by
  rintro ⟨⟨g, c⟩, s⟩ _ ⟨⟨g', c'⟩, s'⟩ _ h
  rw [Finset.disjoint_left]; intro j hj hj'; simp only [mem_box, col] at hj hj'
  have hg : g = g' := Fin.ext (by omega)
  subst hg
  have hc : c = c' := Fin.ext (by omega)
  subst hc
  have hne : s ≠ s' := fun e => h (by rw [e])
  have := recvRow_apart s s' hne
  omega

/-- The device whose finished block of group `g` is the `b`-th of the eight blocks of rows. -/
def owner : Fin 3 → Fin 8 → Dev nD := ![![0, 4, 3, 7, 1, 5, 2, 6], ![0, 1, 4, 5, 3, 2, 7, 6], ![0, 3, 1, 2, 4, 7, 5, 6]]

theorem owner_row : ∀ g d, ∃ b : Fin 8, row 3 g d = 192 * b.val ∧ owner g b = d := by decide +kernel

end Cert.KernelIdeal.Geom
-- ==== Proof.Contents.lean ====
module

public import proofs.«01_k».proof.Proof.Geom
public import Idealize.ShloMosaic.Lib.Pipeline.Value

/-!
# What the buffers hold

Each device's staged operands being `a d` and `b d`: what its accumulator holds after each reduction step, what its receive buffer
holds, what the result holds; and that the operations of the kernel make these values of each other, a rectangle at a time.
-/

@[expose] public section

noncomputable section

namespace Cert.KernelIdeal.Contents

open Cert.KernelIdeal Cert.KernelIdeal.Gen Cert.KernelIdeal.Steps Cert.KernelIdeal.Geom
open Idealize.ShloMosaic Idealize.ShloMosaic.TcCoe

variable {F : FTy → Type} [FloatOps F]

/-- The position in row `r` and column `q` of an array of `M` rows and `N` columns. -/
def at2 {M N : ℕ} [NeZero M] [NeZero N] (r q : ℕ) : (⟨2, ![M, N]⟩ : Shape).Idx := fun a =>
  match a with
  | 0 => Fin.ofNat M r
  | 1 => Fin.ofNat N q

theorem at2_eq {M N : ℕ} [NeZero M] [NeZero N] {r q : ℕ} {i : (⟨2, ![M, N]⟩ : Shape).Idx} (h0 : (i 0 : ℕ) = r) (h1 : (i 1 : ℕ) = q) :
    at2 r q = i := by
  funext x
  match x with
  | 0 => exact Fin.ext ((congrArg (· % M) h0.symm).trans (Nat.mod_eq_of_lt (i 0).isLt))
  | 1 => exact Fin.ext ((congrArg (· % N) h1.symm).trans (Nat.mod_eq_of_lt (i 1).isLt))

/-- The column group of a position. -/
def grp {M : ℕ} (i : (⟨2, ![M, 1536]⟩ : Shape).Idx) : Fin 3 :=
  ⟨(i 1 : ℕ) / 512, by have h : (i 1 : ℕ) < 1536 := (i 1).isLt; omega⟩

section
variable (a : Dev nD → Vec F S1536x768 .bf16) (b : Dev nD → Vec F S768x1536 .bf16)

/-- 768 rows of device `d`'s block of `A`, from row `r` on. -/
def aPart (d : Dev nD) (r : ℕ) : Vec F S768x768 .bf16 := fun j => a d (at2 (r + (j 0 : ℕ)) (j 1 : ℕ))

/-- Device `d`'s partial product, at a position. -/
def part (d : Dev nD) (i : S1536x1536.Idx) : F .bf16 :=
  dotPay (grp i) (b d) (aPart a d (768 * ((i 0 : ℕ) / 768))) (at2 ((i 0 : ℕ) % 768) ((i 1 : ℕ) % 512))

/-- The accumulator's entry at a position after `t` reduction steps. -/
def acc : ℕ → Dev nD → S1536x1536.Idx → F .bf16
  | 0, d, i => part a b d i
  | t + 1, d, i => FloatOps.addf (acc t d i) (acc t (peer (Fin.ofNat 3 t) (grp i) d) i)

theorem acc_succ (s : Fin 3) (d : Dev nD) (i : S1536x1536.Idx) :
    acc a b (s.val + 1) d i = FloatOps.addf (acc a b s.val d i) (acc a b s.val (peer s (grp i) d) i) := by
  rw [acc, show Fin.ofNat 3 s.val = s from Fin.ext (Nat.mod_eq_of_lt s.isLt)]

/-- The reduction step whose block lies in row `r` of the receive buffer. -/
def stepOf (r : ℕ) : Fin 3 := if r < 768 then 0 else if r < 1152 then 1 else 2

/-- What device `d`'s receive buffer holds once every block has landed: at a position of step `s`'s rows, the partner's accumulator
    after `s` steps at the position of the block kept that it is added to. -/
def recv (d : Dev nD) (i : S1344x1536.Idx) : F .bf16 :=
  acc a b (stepOf (i 0)).val (peer (stepOf (i 0)) (grp i) d)
    (at2 (row (stepOf (i 0)).succ (grp i) d + ((i 0 : ℕ) - recvRow (stepOf (i 0)))) (i 1 : ℕ))

/-- The larger of a value and zero. -/
def pos (x : F .bf16) : F .bf16 := FloatOps.maximumf x (Scalar.ofBits .bf16 0x0000#16)

/-- The device that finishes the block a position lies in. -/
def home (i : S1536x1536.Idx) : Dev nD := owner (grp i) ⟨(i 0 : ℕ) / 192, by have h : (i 0 : ℕ) < 1536 := (i 0).isLt; omega⟩

/-- The result, the same on every device. -/
def out (i : S1536x1536.Idx) : F .bf16 := pos (acc a b 3 (home i) i)

/-! ## Positions of rectangles -/

/-- A rectangle's positions, coordinate by coordinate. -/
theorem emb0 {M N r q h w : ℕ} {off : Fin 2 → ℕ} (inb) (ho : off = ![r, q]) (j : (⟨2, ![h, w]⟩ : Shape).Idx) :
    (((Rect.unit (s := ⟨2, ![M, N]⟩) off ![h, w] inb).emb j) 0 : ℕ) = r + (j 0 : ℕ) := by
  subst ho; rw [Rect.emb_apply]; show r + 1 * _ = _; rw [Nat.one_mul]
theorem emb1 {M N r q h w : ℕ} {off : Fin 2 → ℕ} (inb) (ho : off = ![r, q]) (j : (⟨2, ![h, w]⟩ : Shape).Idx) :
    (((Rect.unit (s := ⟨2, ![M, N]⟩) off ![h, w] inb).emb j) 1 : ℕ) = q + (j 1 : ℕ) := by
  subst ho; rw [Rect.emb_apply]; show q + 1 * _ = _; rw [Nat.one_mul]

theorem grp_emb {M h : ℕ} {r : ℕ} {g : Fin 3} {c : Fin 4} {off : Fin 2 → ℕ} (inb) (ho : off = ![r, col g c]) (j : (blk h).Idx) :
    grp ((Rect.unit (s := ⟨2, ![M, 1536]⟩) off ![h, 128] inb).emb j) = g := by
  apply Fin.ext
  show _ / 512 = _
  rw [emb1 inb ho]
  have : (j 1 : ℕ) < 128 := (j 1).isLt
  simp only [col]; omega

theorem stepOf_row : ∀ (s : Fin 3) (k : Fin 768), k.val < half s → stepOf (recvRow s + k.val) = s := by
  intro s k hk
  have : k.val < 768 := k.isLt
  unfold stepOf
  match s, hk with
  | 0, _ => exact if_pos (show 0 + k.val < 768 by omega)
  | 1, hk =>
    have h : k.val < 384 := hk
    exact (if_neg (show ¬ 768 + k.val < 768 by omega)).trans (if_pos (show 768 + k.val < 1152 by omega))
  | 2, _ => exact (if_neg (show ¬ 1152 + k.val < 768 by omega)).trans (if_neg (show ¬ 1152 + k.val < 1152 by omega))

theorem half_le : ∀ s : Fin 3, half s ≤ 768 := by decide

theorem row_one : ∀ (g : Fin 3) (d : Dev nD), row 1 g d = 0 ∨ row 1 g d = 768 := by decide +kernel

/-- What lane `(g, c)` receives at step `s`: the partner's block at the positions it is added to. -/
theorem recv_emb (s g : Fin 3) (c : Fin 4) (d : Dev nD) (j : (blk (half s)).Idx) :
    recv a b d ((dstRect s g c).emb j) = acc a b s.val (peer s g d) ((accRect s g c d).emb j) := by
  have h0 : (((dstRect s g c).emb j) 0 : ℕ) = recvRow s + (j 0 : ℕ) := emb0 _ rfl j
  have h1 : (((dstRect s g c).emb j) 1 : ℕ) = col g c + (j 1 : ℕ) := emb1 _ rfl j
  have hg : grp ((dstRect s g c).emb j) = g := grp_emb _ rfl j
  have hj : (j 0 : ℕ) < half s := (j 0).isLt
  have hh := half_le s
  have hs : stepOf (((dstRect s g c).emb j) 0) = s := by
    rw [h0]; exact stepOf_row s ⟨(j 0 : ℕ), by omega⟩ hj
  unfold recv
  rw [hs, hg]
  congr 1
  apply at2_eq
  · rw [h0]; refine (emb0 _ (rsAcc_eq s g c d) j).trans ?_; omega
  · rw [h1]; exact emb1 _ (rsAcc_eq s g c d) j

/-- The block sent at step `s` lies at the positions the partner adds it to. -/
theorem src_emb (s g : Fin 3) (c : Fin 4) (d : Dev nD) (j : (blk (half s)).Idx) :
    (srcRect s g c d).emb j = (accRect s g c (peer s g d)).emb j := by
  funext x
  apply Fin.ext
  fin_cases x
  · exact (emb0 _ (rsSrc_eq s g c d) j).trans (emb0 _ (rsAcc_eq s g c (peer s g d)) j).symm
  · exact (emb1 _ (rsSrc_eq s g c d) j).trans (emb1 _ (rsAcc_eq s g c (peer s g d)) j).symm

/-- The sum stored at reduction step `s`. -/
theorem addPay_eq (s g : Fin 3) (c : Fin 4) (d : Dev nD) (j : (blk (half s)).Idx) :
    addPay s (fun j => acc a b s.val d ((accRect s g c d).emb j)) (fun j => recv a b d ((dstRect s g c).emb j)) j
      = acc a b (s.val + 1) d ((accRect s g c d).emb j) := by
  have hg : grp ((accRect s g c d).emb j) = g := grp_emb _ (rsAcc_eq s g c d) j
  rw [acc_succ, hg]
  have e : addPay s (fun j => acc a b s.val d ((accRect s g c d).emb j)) (fun j => recv a b d ((dstRect s g c).emb j))
      = addf (fun j => acc a b s.val d ((accRect s g c d).emb j)) (fun j => recv a b d ((dstRect s g c).emb j)) := shapeCast_self _ _
  rw [e]
  show FloatOps.addf _ (recv a b d ((dstRect s g c).emb j)) = _
  rw [recv_emb]

/-- The device that finishes the block. -/
theorem home_emb (g : Fin 3) (c : Fin 4) (d : Dev nD) (j : (blk (half 2)).Idx) : home ((accRect 2 g c d).emb j) = d := by
  have hg : grp ((accRect 2 g c d).emb j) = g := grp_emb _ (rsAcc_eq 2 g c d) j
  have h0 : (((accRect 2 g c d).emb j) 0 : ℕ) = row 3 g d + (j 0 : ℕ) := emb0 _ (rsAcc_eq 2 g c d) j
  obtain ⟨k, hk, ho⟩ := owner_row g d
  have hj : (j 0 : ℕ) < 192 := (j 0).isLt
  unfold home
  rw [hg]
  convert ho using 2
  apply Fin.ext
  show _ / 192 = _
  rw [h0, hk]; omega

/-- The values stored in the result. -/
theorem reluPay_eq (g : Fin 3) (c : Fin 4) (d : Dev nD) (j : (blk (half 2)).Idx) :
    k0_pay37 (F := F) (fun j => acc a b 3 d ((accRect 2 g c d).emb j)) j = out a b ((accRect 2 g c d).emb j) := by
  unfold out; rw [home_emb]; rfl

/-- The partial product stored in a half of a group. -/
theorem dotPay_eq (i : Fin 2) (g : Fin 3) (d : Dev nD) (j : S768x512.Idx) :
    dotPay (F := F) g (b d) (fun j => a d ((aRect i g d).emb j)) j = acc a b 0 d ((cRect i g d).emb j) := by
  have h0 : (((cRect i g d).emb j) 0 : ℕ) = row 1 g (side i g d) + (j 0 : ℕ) := emb0 _ (cOff_eq i g d) j
  have h1 : (((cRect i g d).emb j) 1 : ℕ) = 512 * g + (j 1 : ℕ) := emb1 _ (cOff_eq i g d) j
  have hj0 : (j 0 : ℕ) < 768 := (j 0).isLt
  have hj1 : (j 1 : ℕ) < 512 := (j 1).isLt
  have hr : row 1 g (side i g d) = 0 ∨ row 1 g (side i g d) = 768 := row_one g _
  show _ = part a b d _
  have hg : grp ((cRect i g d).emb j) = g := by
    apply Fin.ext; show _ / 512 = _; rw [h1]; omega
  unfold part
  rw [hg, h0, h1]
  have e1 : 768 * ((row 1 g (side i g d) + (j 0 : ℕ)) / 768) = row 1 g (side i g d) := by omega
  have e2 : (at2 ((row 1 g (side i g d) + (j 0 : ℕ)) % 768) ((512 * (g : ℕ) + (j 1 : ℕ)) % 512) : S768x512.Idx) = j :=
    at2_eq (by omega) (by omega)
  rw [e1, e2]
  congr 1
  funext k
  unfold aPart
  congr 1
  symm
  apply at2_eq
  · exact emb0 _ (aOff_eq i g d) k
  · exact (emb1 _ (aOff_eq i g d) k).trans (Nat.zero_add _)

end

end Cert.KernelIdeal.Contents
-- ==== Proof.Schedule.lean ====
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

/-!
# The protocol

A job is one copy of one lane: `(l, false, s)` sends lane `l`'s block of reduction step `s`, `(l, true, s)` its block of gathering step
`s`. Each job has a cell at the sender (raised when the block has gone out) and one at the receiver (raised when it has come in). A
device's barrier cell is raised once by each of its three partners, each handing over the places its jobs with this device land in.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and the protocol's, whose duties are numbered by the three dimensions of the mesh. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Jobs and cells -/

abbrev Job : Type := Lane × Bool × Fin 3
/-- A job's cell: at the sender, or (`true`) at the receiver. -/
abbrev Slot : Type := Bool × Job

/-- The device at the other end of a job. -/
def pal (j : Job) (d : Dev nD) : Dev nD :=
  match j with
  | (l, false, s) => peer s l.1 d
  | (l, true, s) => peer s.rev l.1 d

theorem pal_pal (j : Job) (d : Dev nD) : pal j (pal j d) = d := by
  rcases j with ⟨l, _ | _, s⟩ <;> exact partner_partner _ _

/-- The semaphore of a cell. -/
def slotSem (x : Slot) : DmaSem sig :=
  match x with
  | (false, l, false, s) => rsSend s l.1 l.2
  | (true, l, false, s) => rsRecv s l.1 l.2
  | (false, l, true, s) => agSend s l.1 l.2
  | (true, l, true, s) => agRecv s l.1 l.2

/-- Which cell a semaphore is. -/
def slotOf (q : DmaSem sig) : Slot :=
  let n := q.val - 3
  (decide (n / 36 % 2 = 1), (Fin.ofNat 3 (n % 36 / 4), Fin.ofNat 4 n), decide (n / 72 = 1), Fin.ofNat 3 (n % 36 / 12))

theorem slotOf_slotSem : ∀ x, slotOf (slotSem x) = x := by decide +kernel
theorem slotSem_ge : ∀ x, 3 ≤ (slotSem x).val := by decide +kernel
theorem slotSem_inj : Function.Injective slotSem := fun x y h => by rw [← slotOf_slotSem x, h, slotOf_slotSem]

abbrev barS : Sem sig := (SemArray.scalar (sig.barrier 0 rfl) : Sems sig S_).sem
abbrev barCell (d : Dev nD) : GSem nD τ sig := ((d : Thread nD τ), .reg barS)
abbrev slotCell (d : Dev nD) (x : Slot) : GSem nD τ sig := ((d : Thread nD τ), .dma (slotSem x))
abbrev sendCell (d : Dev nD) (j : Job) : GSem nD τ sig := slotCell d (false, j)
abbrev recvCell (d : Dev nD) (j : Job) : GSem nD τ sig := slotCell d (true, j)

theorem slotCell_inj {d d' : Dev nD} {x x' : Slot} (h : slotCell d x = slotCell d' x') : d = d' ∧ x = x' := by
  have h1 : d = d' := congrArg (fun g : GSem nD τ sig => g.1.1) h
  have h2 : (SemLoc.dma (slotSem x) : SemLoc sig) = .dma (slotSem x') := congrArg Prod.snd h
  exact ⟨h1, slotSem_inj (SemLoc.dma.inj h2)⟩

/-- What a job's copy adds to its cells. -/
def amt (j : Job) : ℕ :=
  match j with
  | (l, false, s) => (dstM s l.1 l.2).view.dmaCredit
  | (l, true, s) => (outM s l.1 l.2 0).view.dmaCredit

theorem blkOut_pos : ∀ s, 0 < (blk (size s)).numel := by decide +kernel
theorem amt_pos (j : Job) : 0 < amt j := by
  rcases j with ⟨l, _ | _, s⟩
  · exact View.dmaCredit_pos _ (blk_pos s)
  · exact View.dmaCredit_pos _ (blkOut_pos s)

/-! ## Pieces of the three buffers -/

/-- A piece of device `d`'s accumulator, of its receive buffer, of its result. -/
def accAt (d : Dev nD) (S : Finset S1536x1536.Idx) (f : S1536x1536.Idx → F .bf16) : sProp 𝕄 := ((d : Thread nD τ).loc cc0_scratch0) ↦[S]{fullShare} f
def recvAt (d : Dev nD) (S : Finset S1344x1536.Idx) (f : S1344x1536.Idx → F .bf16) : sProp 𝕄 := ((d : Thread nD τ).loc cc0_scratch1) ↦[S]{fullShare} f
def outAt (d : Dev nD) (S : Finset S1536x1536.Idx) (f : S1536x1536.Idx → F .bf16) : sProp 𝕄 := ((d : Thread nD τ).loc cc0_stg2_0) ↦[S]{fullShare} f

omit [FloatOps F] in
instance accAt_storable (d : Dev nD) (S f) : BI.Storable (upEmb : UEmb _ 𝕄) (accAt (F := F) d S f) := by unfold accAt; infer_instance
omit [FloatOps F] in
instance recvAt_storable (d : Dev nD) (S f) : BI.Storable (upEmb : UEmb _ 𝕄) (recvAt (F := F) d S f) := by unfold recvAt; infer_instance
omit [FloatOps F] in
instance outAt_storable (d : Dev nD) (S f) : BI.Storable (upEmb : UEmb _ 𝕄) (outAt (F := F) d S f) := by unfold outAt; infer_instance

/-- The place on device `d` that job `j` lands in, whatever it holds. -/
def hole (d : Dev nD) (j : Job) : sProp 𝕄 :=
  match j with
  | (l, false, s) => iprop(∃ f, recvAt d (recvSet s l.1 l.2) f)
  | (l, true, s) => iprop(∃ f, outAt d (blkSet s.rev.succ l.1 l.2 (peer s.rev l.1 d)) f)

omit [FloatOps F] in
instance hole_storable (d : Dev nD) (j : Job) : BI.Storable (upEmb : UEmb _ 𝕄) (hole (F := F) d j) := by
  rcases j with ⟨l, _ | _, s⟩ <;> (unfold hole; infer_instance)

/-! ## The schedule -/

variable (a : Dev nD → Vec F S1536x768 .bf16) (b : Dev nD → Vec F S768x1536 .bf16)

/-- What a cell hands back: the block sent; the block received. -/
def slotPay (d : Dev nD) (x : Slot) : sProp 𝕄 :=
  match x with
  | (false, l, false, s) => accAt d (blkSet s.succ l.1 l.2 (peer s l.1 d)) (Contents.acc a b s.val d)
  | (true, l, false, s) => recvAt d (recvSet s l.1 l.2) (Contents.recv a b d)
  | (false, l, true, s) => outAt d (blkSet s.rev.succ l.1 l.2 d) (Contents.out a b)
  | (true, l, true, s) => outAt d (blkSet s.rev.succ l.1 l.2 (peer s.rev l.1 d)) (Contents.out a b)

instance slotPay_storable (d : Dev nD) (x : Slot) : BI.Storable (upEmb : UEmb _ 𝕄) (slotPay (F := F) a b d x) := by
  rcases x with ⟨_ | _, l, _ | _, s⟩ <;> (unfold slotPay; infer_instance)

/-- The two places of lane `l` on device `d` that its partner along dimension `k` writes. -/
def holes (d : Dev nD) (k : Fin 3) (l : Lane) : sProp 𝕄 := iprop(hole d (l, false, k - l.1) ∗ hole d (l, true, (k - l.1).rev))

omit [FloatOps F] in
instance holes_storable (d : Dev nD) (k : Fin 3) (l : Lane) : BI.Storable (upEmb : UEmb _ 𝕄) (holes (F := F) d k l) := by unfold holes; infer_instance

/-- What device `d`'s partner along dimension `k` hands it at the barrier. -/
def barPay (d : Dev nD) (k : Fin 3) : sProp 𝕄 := bigSep Finset.univ fun l : Lane => holes (partner k d) k l

omit [FloatOps F] in
instance barPay_storable (d : Dev nD) (k : Fin 3) : BI.Storable (upEmb : UEmb _ 𝕄) (barPay (F := F) d k) := by unfold barPay; infer_instance

def duty (g : GSem nD τ sig) : Finset (Fin 3) :=
  if g.1.2 = .tc then
    match g.2 with
    | .reg s => if s = barS then Finset.univ else ∅
    | .dma q => if 3 ≤ q.val then {0} else ∅
  else ∅

/-- The schedule: one round; a barrier cell has the three partners' duties of one unit each, a job's cell the one duty of its copy. -/
def Rd : Rounds.Schedule (GSem nD τ sig) (Fin 3) 𝕄 where
  duties g r := if r = 0 then duty g else ∅
  unitless _ := False
  amount g _ _ :=
    match g.2 with
    | .reg _ => 1
    | .dma q => amt (slotOf q).2
  payload g _ k :=
    match g.2 with
    | .reg _ => barPay g.1.1 k
    | .dma q => slotPay a b g.1.1 (slotOf q)
  amount_pos g _ _ _ := by
    rcases g with ⟨c, _ | _⟩
    · exact Nat.one_pos
    · exact amt_pos _

instance Rd_payload_storable (g : GSem nD τ sig) (r : ℕ) (k : Fin 3) : BI.Storable (upEmb : UEmb _ 𝕄) ((Rd (F := F) a b).payload g r k) := by
  rcases g with ⟨c, _ | _⟩
  · exact barPay_storable _ _
  · exact slotPay_storable _ _ _ _

section Facts
variable (d : Dev nD) (x : Slot) (k : Fin 3)

theorem duties_bar : (Rd (F := F) a b).duties (barCell d) 0 = Finset.univ := rfl
theorem duties_slot : (Rd (F := F) a b).duties (slotCell d x) 0 = {0} := by
  show (if (d : Thread nD τ).2 = .tc then (if 3 ≤ (slotSem x).val then {0} else ∅) else ∅) = _
  rw [if_pos rfl, if_pos (slotSem_ge x)]
theorem duties_later (g : GSem nD τ sig) : ∀ r, 1 ≤ r → (Rd (F := F) a b).duties g r = ∅ := fun r hr => if_neg (by omega)

theorem amount_bar : (Rd (F := F) a b).amount (barCell d) 0 k = 1 := rfl
theorem amount_slot : (Rd (F := F) a b).amount (slotCell d x) 0 k = amt x.2 := by
  show amt (slotOf (slotSem x)).2 = _; rw [slotOf_slotSem]
theorem payload_bar : (Rd (F := F) a b).payload (barCell d) 0 k = barPay d k := rfl
theorem payload_slot : (Rd (F := F) a b).payload (slotCell d x) 0 k = slotPay a b d x := by
  show slotPay a b d (slotOf (slotSem x)) = _; rw [slotOf_slotSem]

theorem expect_bar : (Rd (F := F) a b).expect (barCell d) 0 = 3 := by
  unfold Schedule.expect Schedule.amountOf
  rw [duties_bar, Finset.sum_congr rfl fun k _ => amount_bar a b d k, Finset.sum_const, Finset.card_univ, Fintype.card_fin, smul_eq_mul]
theorem expect_slot : (Rd (F := F) a b).expect (slotCell d x) 0 = amt x.2 := by
  unfold Schedule.expect Schedule.amountOf; rw [duties_slot, Finset.sum_singleton, amount_slot]

/-- Everything a barrier's round hands over; and a job's cell's. -/
theorem rest_bar : bigSep ((Rd (F := F) a b).duties (barCell d) 0 \ ∅) (fun k => (Rd (F := F) a b).payload (barCell d) 0 k)
    = bigSep Finset.univ fun k => barPay d k := by
  rw [Finset.sdiff_empty, duties_bar]; rfl
theorem rest_slot : bigSep ((Rd (F := F) a b).duties (slotCell d x) 0 \ ∅) (fun k => (Rd (F := F) a b).payload (slotCell d x) 0 k)
    = slotPay a b d x := by
  rw [Finset.sdiff_empty, duties_slot, bigSep_singleton, payload_slot]

end Facts

/-! ## What a device owes; the levels -/

/-- What device `d` owes for the jobs still to be sent: their amounts, to their receivers. -/
def owed (d : Dev nD) : List Job → CellTallies nD τ sig Unit
  | [] => 0
  | j :: js => owed d js + tallyAt (recvCell (pal j d) j) () (amt j)

/-- The labels of a cell; the levels: a barrier's 1, a job's receiving cell's above it in the order of the steps, every other 0. -/
def L (g : GSem nD τ sig) : Finset Unit := if g.1.2 = .tc then {()} else ∅
def rank (p : Bool × Fin 3) : ℕ := match p with | (false, s) => s.val | (true, s) => 3 + s.val
def slotLev (x : Slot) : ℕ := match x with | (false, _) => 0 | (true, j) => 2 + rank j.2
def lv (g : GSem nD τ sig) (_ : Unit) : ℕ :=
  match g.2 with
  | .reg _ => 1
  | .dma q => if q.val < 3 then 0 else slotLev (slotOf q)

theorem L_of_ne (g : GSem nD τ sig) (h : g.1.2 ≠ .tc) : L g = ∅ := if_neg h
theorem L_tc (c : Dev nD) (sm : SemLoc sig) : L ((c : Thread nD τ), sm) = {()} := if_pos rfl

theorem lv_slot (d : Dev nD) (x : Slot) (u : Unit) : lv (slotCell d x) u = slotLev x := by
  show (if (slotSem x).val < 3 then 0 else slotLev (slotOf (slotSem x))) = _
  rw [if_neg (by have := slotSem_ge x; omega), slotOf_slotSem]

theorem owed_pos {d : Dev nD} {js : List Job} {g : GSem nD τ sig} {u : Unit} (h : 0 < owed d js g u) : ∃ j ∈ js, g = recvCell (pal j d) j := by
  induction js with
  | nil => exact absurd h (Nat.lt_irrefl 0)
  | cons j js ih =>
    rw [owed, Pi.add_apply, Finsupp.add_apply, tallyAt_apply] at h
    by_cases hg : g = recvCell (pal j d) j ∧ u = ()
    · exact ⟨j, List.mem_cons_self, hg.1⟩
    · rw [if_neg hg, Nat.add_zero] at h
      obtain ⟨j', hj, hg'⟩ := ih h
      exact ⟨j', List.mem_cons_of_mem _ hj, hg'⟩

omit [FloatOps F] in
/-- A device may wait on a cell of level at most `n` while what it owes lies above `n`. -/
theorem mayWait (d : Dev nD) (sm : SemLoc sig) (js : List Job) (n : ℕ) (hn : lv ((d : Thread nD τ), sm) () ≤ n) (hj : ∀ j ∈ js, n < 2 + rank j.2) :
    (levAts L lv : sProp 𝕄) ⊢ MayWait (d : Thread nD τ) sm () (owed d js) :=
  MayOwe.of_cut (L := L) (lev := lv) n (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp]; exact hn)
    (fun g u hg => by obtain ⟨j, hm, rfl⟩ := owed_pos hg; rw [lv_slot]; exact hj j hm)

end Cert.KernelIdeal.Protocol
-- ==== Proof.Copies.lean ====
module

public import proofs.«01_k».proof.Proof.Schedule

/-!
# One job

Sending a job's block, and waiting for its two cells.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running program `k` on device `d` to `Q`. -/
abbrev run (d : Dev nD) (k : PR F) (Q : PUnit → sProp 𝕄) : sProp 𝕄 :=
  wp frame (wpE (defs₀ (F := F)) 𝒱₀ (d : Thread nD τ) none) Set.univ k Q

/-- The cells of the protocol: each device's barrier cell and its jobs' cells. -/
abbrev Name : Type := Dev nD × Option Slot
instance : DecidableEq (Option Slot) := inferInstance
instance : DecidableEq Name := inferInstanceAs (DecidableEq (Dev nD × Option Slot))
def cell (n : Name) : GSem nD τ sig := match n.2 with | none => barCell n.1 | some x => slotCell n.1 x

variable (a : Dev nD → Vec F S1536x768 .bf16) (b : Dev nD → Vec F S768x1536 .bf16) (K : Name → ℕ)

/-- Every cell's invariant, and that it has reached its round. -/
def records : sProp 𝕄 :=
  iprop((bigSep Finset.univ fun n : Name => cellInv ER (Rd a b) (K n) (cell n)) ∗ bigSep Finset.univ fun n : Name => reached ER (cell n) 0)

instance records_persistent : BI.Persistent (records a b K) := by unfold records; infer_instance

theorem inv_at (n : Name) : records a b K ⊢ cellInv ER (Rd a b) (K n) (cell n) := by
  have h : (bigSep Finset.univ fun n : Name => (cellInv ER (Rd a b) (K n) (cell n) : sProp 𝕄)) ⊢ cellInv ER (Rd a b) (K n) (cell n) := bigSep_elim (Finset.mem_univ n)
  unfold records; iintro ⟨H, -⟩; iapply h; iexact H
theorem reached_at (n : Name) : records a b K ⊢ (reached ER (cell n) 0 : sProp 𝕄) := by
  have h : (bigSep Finset.univ fun n : Name => (reached ER (cell n) 0 : sProp 𝕄)) ⊢ reached ER (cell n) 0 := bigSep_elim (Finset.mem_univ n)
  unfold records; iintro ⟨-, H⟩; iapply h; iexact H

/-- What every step keeps: the records, the levels, and that device `d` owes exactly the jobs `js`. -/
def Ctx (d : Dev nD) (js : List Job) : sProp 𝕄 :=
  iprop(records a b K ∗ levAts L lv ∗ ∃ W, owes (d : Thread nD τ) (owed d js) W)

/-- A job not yet sent: the right to raise its two cells, and this device's positions and credit at its own. -/
def tok (d : Dev nD) (j : Job) : sProp 𝕄 :=
  iprop(dutyTok ER (sendCell d j) 0 0 ∗ dutyTok ER (recvCell (pal j d) j) 0 0
    ∗ atPos ER (sendCell d j) 0 ∅ 0 ∗ atPos ER (recvCell d j) 0 ∅ 0 ∗ cred (tallyAt (recvCell d j) () (amt j)))
/-- with the place it lands in; -/
def pend (d : Dev nD) (j : Job) : sProp 𝕄 := iprop(tok d j ∗ hole (pal j d) j)
/-- a job in flight; -/
def fly (d : Dev nD) (j : Job) : sProp 𝕄 :=
  iprop((cred (tallyAt (sendCell d j) () (amt j)) ∗ atPos ER (sendCell d j) 0 ∅ 0) ∗ cred (tallyAt (recvCell d j) () (amt j)) ∗ atPos ER (recvCell d j) 0 ∅ 0)
/-- a job done. -/
def done (d : Dev nD) (j : Job) : sProp 𝕄 := iprop(atPos ER (sendCell d j) 1 ∅ 0 ∗ atPos ER (recvCell d j) 1 ∅ 0)

/-- Writing through a rectangle of a whole buffer the values of `T` there makes it hold `T` there. -/
theorem write_rect {ref : Ref sig .tc} (r : Rect ref.ty.shape) (f : ref.ty.Contents (Elt F)) (w : r.shape.Idx → Elt F ref.ty.elt)
    (T : ref.ty.Contents (Elt F)) (h : ∀ j, w j = T (r.emb j)) :
    ∀ i ∈ r.set, ((View.whole ref).slice r).write (Elt F) f w Finset.univ i = T i := by
  intro i hi
  rw [← Rect.map_emb_univ] at hi
  obtain ⟨j, -, rfl⟩ := Finset.mem_map.mp hi
  exact (View.write_emb_of_mem (v := (View.whole ref).slice r) f w (Finset.mem_univ j)).trans (h j)

/-- Sending a block of a reduction step. -/
theorem wp_sendRs' (d n : Dev nD) (s : Fin 3) (l : Lane) (js : List Job) (k : PR F) (Q : PUnit → sProp 𝕄) (hn : n = peer s l.1 d)
    {hsc : (dstM s l.1 l.2).view.ref.isScScratch = false} {hsrc : (srcM s l.1 l.2 d).view.WordExact} {hdst : (dstM s l.1 l.2).view.WordExact}
    {hsem : DmaTarget.Typed .vmem (.dma (rsRecv s l.1 l.2)) (.remote (Dev.tc n : Thread nD τ) (dstM s l.1 l.2) (.dma (rsSend s l.1 l.2)) hsc)} :
    iprop(Ctx a b K d ((l, false, s) :: js) ∗ pend d (l, false, s) ∗ accAt d (blkSet s.succ l.1 l.2 (peer s l.1 d)) (Contents.acc a b s.val d)
        ∗ ((Ctx a b K d js ∗ fly d (l, false, s)) -∗ run d k Q))
      ⊢ run d (.op (.enqueueDma (srcM s l.1 l.2 d) (.remote (Dev.tc n) (dstM s l.1 l.2) (.dma (rsSend s l.1 l.2)) hsc) (.dma (rsRecv s l.1 l.2)) hsrc hdst hsem) fun _ => k) Q := by
  subst hn
  unfold Ctx pend tok hole
  iintro ⟨⟨#HR, #Hlev, %W, HO⟩, ⟨⟨HtS, HtV, HaS, HaV, HcV⟩, ⟨%fd, Hd⟩⟩, Hs, Hk⟩
  unfold accAt recvAt
  have e1 := set_src s l.1 l.2 d
  have e2 := set_dst s l.1 l.2
  have hs : (srcM s l.1 l.2 d).view.set = blkSet s.succ l.1 l.2 (peer s l.1 d) := (View.set_slice_whole cc0_scratch0 _).trans e1
  have hd : (dstM s l.1 l.2).view.set = recvSet s l.1 l.2 := (View.set_slice_whole cc0_scratch1 _).trans e2
  iapply (Rounds.wp_send_pointsTo 𝒱₀ ER (Rd a b) (d : Thread nD τ) none (src := srcM s l.1 l.2 d) (dst := dstM s l.1 l.2) (c' := (peer s l.1 d : Thread nD τ))
    (κ₁ := K (d, some (false, l, false, s))) (κ₂ := K (peer s l.1 d, some (true, l, false, s)))
    (r₁ := 0) (r₂ := 0) (d₁ := 0) (d₂ := 0) (fs := Contents.acc a b s.val d) (fd := fd)
    (by exact (duties_slot a b d (false, l, false, s)) ▸ Finset.mem_singleton_self _)
    (by exact (duties_slot a b (peer s l.1 d) (true, l, false, s)) ▸ Finset.mem_singleton_self _)
    () () (amt (l, false, s)) rfl (amount_slot a b d (false, l, false, s) 0) (amount_slot a b (peer s l.1 d) (true, l, false, s) 0)
    (owed d js) rfl (W := W)
    (by
      refine (Entails.of_eq ?_).trans (Entails.of_eq (payload_slot a b d (false, l, false, s) 0).symm)
      rw [hs]; rfl)
    (by
      refine (Entails.of_eq ?_).trans (Entails.of_eq (payload_slot a b (peer s l.1 d) (true, l, false, s) 0).symm)
      refine (pointsTo_congr (g := Contents.recv a b (peer s l.1 d)) fun i hi => ?_).trans ?_
      · rw [hd, ← e2] at hi
        refine write_rect (ref := cc0_scratch1) (dstRect s l.1 l.2) fd _ (Contents.recv a b (peer s l.1 d)) (fun j => ?_) i hi
        rw [Contents.recv_emb, peer_peer, ← Contents.src_emb]; rfl
      · rw [hd]; rfl)) $$ [HtS HtV HO Hs Hd]
  · isplitr; · iapply (inv_at a b K (d, some (false, l, false, s))); iexact HR
    isplitr; · iapply (inv_at a b K (peer s l.1 d, some (true, l, false, s))); iexact HR
    isplitl [Hs]; · rw [hs]; iexact Hs
    isplitl [Hd]; · rw [hd]; iexact Hd
    isplitl [HO]; · iexact HO
    isplitl [HtS]; · iexact HtS
    isplitr; · iapply (reached_at a b K (d, some (false, l, false, s))); iexact HR
    isplitl [HtV]; · iexact HtV
    iapply (reached_at a b K (peer s l.1 d, some (true, l, false, s))); iexact HR
  iintro ⟨HcS, HO⟩
  iapply Hk
  unfold fly
  isplitl [HO]
  · isplitr; · iexact HR
    isplitr; · iexact Hlev
    iexists W; iexact HO
  isplitl [HcS HaS]
  · isplitl [HcS]; · iexact HcS
    iexact HaS
  isplitl [HcV]; · iexact HcV
  iexact HaV

theorem wp_sendRs (d : Dev nD) (s : Fin 3) (l : Lane) (js : List Job) (k : PR F) (Q : PUnit → sProp 𝕄) :
    iprop(Ctx a b K d ((l, false, s) :: js) ∗ pend d (l, false, s) ∗ accAt d (blkSet s.succ l.1 l.2 (peer s l.1 d)) (Contents.acc a b s.val d)
        ∗ ((Ctx a b K d js ∗ fly d (l, false, s)) -∗ run d k Q))
      ⊢ run d (sendRs d s l.1 l.2 k) Q :=
  wp_sendRs' a b K d _ s l js k Q (rsDev_eq s l.1 l.2 d)

/-- Sending a block of a gathering step. -/
theorem wp_sendAg' (d n : Dev nD) (s : Fin 3) (l : Lane) (js : List Job) (k : PR F) (Q : PUnit → sProp 𝕄) (hn : n = peer s.rev l.1 d)
    {hsc : (outM s l.1 l.2 d).view.ref.isScScratch = false} {hsrc : (outM s l.1 l.2 d).view.WordExact} {hdst : (outM s l.1 l.2 d).view.WordExact}
    {hsem : DmaTarget.Typed .vmem (.dma (agRecv s l.1 l.2)) (.remote (Dev.tc n : Thread nD τ) (outM s l.1 l.2 d) (.dma (agSend s l.1 l.2)) hsc)} :
    iprop(Ctx a b K d ((l, true, s) :: js) ∗ pend d (l, true, s) ∗ outAt d (blkSet s.rev.succ l.1 l.2 d) (Contents.out a b)
        ∗ ((Ctx a b K d js ∗ fly d (l, true, s)) -∗ run d k Q))
      ⊢ run d (.op (.enqueueDma (outM s l.1 l.2 d) (.remote (Dev.tc n) (outM s l.1 l.2 d) (.dma (agSend s l.1 l.2)) hsc) (.dma (agRecv s l.1 l.2)) hsrc hdst hsem) fun _ => k) Q := by
  subst hn
  unfold Ctx pend tok hole
  iintro ⟨⟨#HR, #Hlev, %W, HO⟩, ⟨⟨HtS, HtV, HaS, HaV, HcV⟩, ⟨%fd, Hd⟩⟩, Hs, Hk⟩
  unfold outAt
  have e1 := set_out s l.1 l.2 d
  have hs : (outM s l.1 l.2 d).view.set = blkSet s.rev.succ l.1 l.2 d := (View.set_slice_whole cc0_stg2_0 _).trans e1
  have hp : peer s.rev l.1 (pal (l, true, s) d) = d := peer_peer s.rev l.1 d
  iapply (Rounds.wp_send_pointsTo 𝒱₀ ER (Rd a b) (d : Thread nD τ) none (src := outM s l.1 l.2 d) (dst := outM s l.1 l.2 d) (c' := (peer s.rev l.1 d : Thread nD τ))
    (κ₁ := K (d, some (false, l, true, s))) (κ₂ := K (peer s.rev l.1 d, some (true, l, true, s)))
    (r₁ := 0) (r₂ := 0) (d₁ := 0) (d₂ := 0) (fs := Contents.out a b) (fd := fd)
    (by exact (duties_slot a b d (false, l, true, s)) ▸ Finset.mem_singleton_self _)
    (by exact (duties_slot a b (peer s.rev l.1 d) (true, l, true, s)) ▸ Finset.mem_singleton_self _)
    () () (amt (l, true, s)) rfl (amount_slot a b d (false, l, true, s) 0) (amount_slot a b (peer s.rev l.1 d) (true, l, true, s) 0)
    (owed d js) rfl (W := W)
    (by
      refine (Entails.of_eq ?_).trans (Entails.of_eq (payload_slot a b d (false, l, true, s) 0).symm)
      rw [hs]; rfl)
    (by
      refine (Entails.of_eq ?_).trans (Entails.of_eq (payload_slot a b (peer s.rev l.1 d) (true, l, true, s) 0).symm)
      refine (pointsTo_congr (g := Contents.out a b) fun i hi => ?_).trans ?_
      · rw [hs, ← e1] at hi
        exact write_rect (ref := cc0_stg2_0) (outRect s l.1 l.2 d) fd _ (Contents.out a b) (fun j => rfl) i hi
      · rw [hs]; show _ = outAt (peer s.rev l.1 d) (blkSet s.rev.succ l.1 l.2 (peer s.rev l.1 (peer s.rev l.1 d))) _; rw [peer_peer]; rfl)) $$ [HtS HtV HO Hs Hd]
  · isplitr; · iapply (inv_at a b K (d, some (false, l, true, s))); iexact HR
    isplitr; · iapply (inv_at a b K (peer s.rev l.1 d, some (true, l, true, s))); iexact HR
    isplitl [Hs]; · rw [hs]; iexact Hs
    isplitl [Hd]; · rw [hs, hp]; iexact Hd
    isplitl [HO]; · iexact HO
    isplitl [HtS]; · iexact HtS
    isplitr; · iapply (reached_at a b K (d, some (false, l, true, s))); iexact HR
    isplitl [HtV]; · iexact HtV
    iapply (reached_at a b K (peer s.rev l.1 d, some (true, l, true, s))); iexact HR
  iintro ⟨HcS, HO⟩
  iapply Hk
  unfold fly
  isplitl [HO]
  · isplitr; · iexact HR
    isplitr; · iexact Hlev
    iexists W; iexact HO
  isplitl [HcS HaS]
  · isplitl [HcS]; · iexact HcS
    iexact HaS
  isplitl [HcV]; · iexact HcV
  iexact HaV

theorem wp_sendAg (d : Dev nD) (s : Fin 3) (l : Lane) (js : List Job) (k : PR F) (Q : PUnit → sProp 𝕄) :
    iprop(Ctx a b K d ((l, true, s) :: js) ∗ pend d (l, true, s) ∗ outAt d (blkSet s.rev.succ l.1 l.2 d) (Contents.out a b)
        ∗ ((Ctx a b K d js ∗ fly d (l, true, s)) -∗ run d k Q))
      ⊢ run d (sendAg d s l.1 l.2 k) Q :=
  wp_sendAg' a b K d _ s l js k Q (agDev_eq s l.1 l.2 d)

theorem credit_src (s : Fin 3) (l : Lane) (d : Dev nD) : (srcM s l.1 l.2 d).view.dmaCredit = amt (l, false, s) := rfl
theorem credit_out (s : Fin 3) (l : Lane) (d : Dev nD) : (outM s l.1 l.2 d).view.dmaCredit = amt (l, true, s) := rfl

/-- Waiting for one cell. -/
theorem wp_waitSlot (d : Dev nD) (x : Slot) (js : List Job) (hj : ∀ j ∈ js, slotLev x < 2 + rank j.2)
    {sp sp' : Space} {sh : Shape} {e : EltTy} {q : DmaSem sig} (hq : q = slotSem x)
    (src : Memref sig .tc sp sh e) (dst : Memref sig .tc sp' sh e) (h₁ : src.view.WordExact) (h₂ : dst.view.WordExact)
    (hN : dst.view.dmaCredit = amt x.2) (k : PUnit → PR F) (Q : PUnit → sProp 𝕄) :
    iprop(Ctx a b K d js ∗ (cred (tallyAt (slotCell d x) () (amt x.2)) ∗ atPos ER (slotCell d x) 0 ∅ 0)
        ∗ ((Ctx a b K d js ∗ atPos ER (slotCell d x) 1 ∅ 0 ∗ slotPay a b d x) -∗ run d (k ⟨⟩) Q))
      ⊢ run d (.op (.waitDma2 q src dst h₁ h₂) k) Q := by
  subst hq
  unfold Ctx
  iintro ⟨⟨#HR, #Hlev, %W, HO⟩, ⟨Hc, Ha⟩, Hk⟩
  iapply (Rounds.wp_wait_rest_token 𝒱₀ ER (Rd a b) (d : Thread nD τ) none (κ := K (d, some x))
      (wpE_waitDma2_eq 𝒱₀ (d : Thread nD τ) none Set.univ) (Set.mem_univ _) () (O := owed d js) (W := W) (R := 0) (m := 0) (T := ∅)
      (by rw [Nat.zero_add]; exact hN.trans (expect_slot a b d x).symm)) $$ [Hc HO Ha]
  · isplitr; · iapply (inv_at a b K (d, some x)); iexact HR
    isplitl [Hc]; · rw [hN]; iexact Hc
    isplitl [HO]; · iexact HO
    isplitr
    · iapply (mayWait d (.dma (slotSem x)) js (slotLev x) (le_of_eq (lv_slot d x ())) hj); iexact Hlev
    iexact Ha
  iintro ⟨HO, Ha, -, Hpay⟩
  ihave Hp := (Entails.of_eq (rest_slot a b d x)) $$ Hpay
  iapply Hk
  isplitl [HO]
  · isplitr; · iexact HR
    isplitr; · iexact Hlev
    iexists (insert (SemLoc.dma (slotSem x), ()) W); iexact HO
  isplitl [Ha]; · iexact Ha
  iexact Hp

/-- Waiting for both cells of a reduction step. -/
theorem wp_waitRs (d : Dev nD) (s : Fin 3) (l : Lane) (js : List Job) (hj : ∀ j ∈ js, rank (false, s) < rank j.2) (k : PR F) (Q : PUnit → sProp 𝕄) :
    iprop(Ctx a b K d js ∗ fly d (l, false, s)
        ∗ ((Ctx a b K d js ∗ done d (l, false, s) ∗ slotPay a b d (false, l, false, s) ∗ slotPay a b d (true, l, false, s)) -∗ run d k Q))
      ⊢ run d (waitRs d s l.1 l.2 k) Q := by
  unfold waitRs fly
  iintro ⟨HC, ⟨H1, H2⟩, Hk⟩
  iapply (wp_waitSlot a b K d (false, l, false, s) js (fun j h => by show 0 < _; omega) rfl _ _ _ _ (credit_src s l d))
  isplitl [HC]; · iexact HC
  isplitl [H1]; · iexact H1
  iintro ⟨HC, HA1, HP1⟩
  iapply (wp_waitSlot a b K d (true, l, false, s) js (fun j h => by exact Nat.add_lt_add_left (hj j h) 2) rfl _ _ _ _ rfl)
  isplitl [HC]; · iexact HC
  isplitl [H2]; · iexact H2
  iintro ⟨HC, HA2, HP2⟩
  iapply Hk
  unfold done
  isplitl [HC]; · iexact HC
  isplitl [HA1 HA2]
  · isplitl [HA1] <;> iassumption
  isplitl [HP1] <;> iassumption

/-- Waiting for both cells of a gathering step. -/
theorem wp_waitAg (d : Dev nD) (s : Fin 3) (l : Lane) (js : List Job) (hj : ∀ j ∈ js, rank (true, s) < rank j.2) (k : PR F) (Q : PUnit → sProp 𝕄) :
    iprop(Ctx a b K d js ∗ fly d (l, true, s)
        ∗ ((Ctx a b K d js ∗ done d (l, true, s) ∗ slotPay a b d (false, l, true, s) ∗ slotPay a b d (true, l, true, s)) -∗ run d k Q))
      ⊢ run d (waitAg d s l.1 l.2 k) Q := by
  unfold waitAg fly
  iintro ⟨HC, ⟨H1, H2⟩, Hk⟩
  iapply (wp_waitSlot a b K d (false, l, true, s) js (fun j h => by show 0 < _; omega) rfl _ _ _ _ (credit_out s l d))
  isplitl [HC]; · iexact HC
  isplitl [H1]; · iexact H1
  iintro ⟨HC, HA1, HP1⟩
  iapply (wp_waitSlot a b K d (true, l, true, s) js (fun j h => by exact Nat.add_lt_add_left (hj j h) 2) rfl _ _ _ _ (credit_out s l d))
  isplitl [HC]; · iexact HC
  isplitl [H2]; · iexact H2
  iintro ⟨HC, HA2, HP2⟩
  iapply Hk
  unfold done
  isplitl [HC]; · iexact HC
  isplitl [HA1 HA2]
  · isplitl [HA1] <;> iassumption
  isplitl [HP1] <;> iassumption

end Cert.KernelIdeal.Protocol
-- ==== Proof.Moves.lean ====
module

public import proofs.«01_k».proof.Proof.Copies

/-!
# The steps that compute, and a lane's turn

The product of a half of a group, the sum of a block kept and a block received, the reduced block written to the result; and each
lane's turn in each round of the loops: wait for a job, compute, send the next.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .bf16) (b : Dev nD → Vec F S768x1536 .bf16) (K : Name → ℕ)

theorem setOn_whole (ref : Ref sig .tc) (r : Rect ref.ty.shape) : (View.whole ref).setOn r.set = r.set := Finset.map_refl

/-- Adding the block received to the block kept. -/
theorem wp_accum (d : Dev nD) (s : Fin 3) (l : Lane) (k : PR F) (Q : PUnit → sProp 𝕄) :
    iprop(accAt d (blkSet s.succ l.1 l.2 d) (Contents.acc a b s.val d) ∗ recvAt d (recvSet s l.1 l.2) (Contents.recv a b d)
        ∗ ((accAt d (blkSet s.succ l.1 l.2 d) (Contents.acc a b (s.val + 1) d) ∗ recvAt d (recvSet s l.1 l.2) (Contents.recv a b d)) -∗ run d k Q))
      ⊢ run d (accum d s l.1 l.2 k) Q := by
  have e1 := set_acc s l.1 l.2 d
  have e2 := set_dst s l.1 l.2
  have h1 : (cM.view.setOn (accRect s l.1 l.2 d).set : Finset S1536x1536.Idx) ⊆ blkSet s.succ l.1 l.2 d := by
    rw [← e1]; exact (setOn_whole cc0_scratch0 _).le
  have h2 : (rM.view.setOn (dstRect s l.1 l.2).set : Finset S1344x1536.Idx) ⊆ recvSet s l.1 l.2 := by
    rw [← e2]; exact (setOn_whole cc0_scratch1 _).le
  have h3 : (cM.access (accRect s l.1 l.2 d)).setOn Finset.univ ⊆ blkSet s.succ l.1 l.2 d := by
    rw [← e1]; exact (View.set_slice_whole cc0_scratch0 _).le
  unfold accum accAt recvAt
  iintro ⟨Hc, Hr, Hk⟩
  iapply (wp_load 𝒱₀ (d : Thread nD τ) none Set.univ (m := cM) h1) $$ Hc; iintro Hc
  iapply (wp_load 𝒱₀ (d : Thread nD τ) none Set.univ (m := rM) h2) $$ Hr; iintro Hr
  iapply (wp_load 𝒱₀ (d : Thread nD τ) none Set.univ (m := cM) h1) $$ Hc; iintro Hc
  iapply (wp_store 𝒱₀ (d : Thread nD τ) none Set.univ (m := cM) (r := accRect s l.1 l.2 d) (Mk := Finset.univ) h3) $$ Hc; iintro Hc
  iapply Hk
  isplitl [Hc]
  · iapply (Entails.of_eq (pointsTo_congr (g := Contents.acc a b (s.val + 1) d) fun i hi =>
      write_rect (ref := cc0_scratch0) (accRect s l.1 l.2 d) _ _ (Contents.acc a b (s.val + 1) d) (fun j => Contents.addPay_eq a b s l.1 l.2 d j) i (e1.symm ▸ hi)))
    iexact Hc
  iexact Hr

/-- Writing the reduced block to the result. -/
theorem wp_relu (d : Dev nD) (l : Lane) (k : PR F) (Q : PUnit → sProp 𝕄) :
    iprop(accAt d (blkSet 3 l.1 l.2 d) (Contents.acc a b 3 d) ∗ (∃ f, outAt d (blkSet 3 l.1 l.2 d) f)
        ∗ ((accAt d (blkSet 3 l.1 l.2 d) (Contents.acc a b 3 d) ∗ outAt d (blkSet 3 l.1 l.2 d) (Contents.out a b)) -∗ run d k Q))
      ⊢ run d (relu d l.1 l.2 k) Q := by
  have e1 : (accRect 2 l.1 l.2 d).set = blkSet 3 l.1 l.2 d := set_acc 2 l.1 l.2 d
  have h1 : (cM.view.setOn (accRect 2 l.1 l.2 d).set : Finset S1536x1536.Idx) ⊆ blkSet 3 l.1 l.2 d := by
    rw [← e1]; exact (setOn_whole cc0_scratch0 _).le
  have h2 : (oM.view.setOn (accRect 2 l.1 l.2 d).set : Finset S1536x1536.Idx) ⊆ blkSet 3 l.1 l.2 d := by
    rw [← e1]; exact (setOn_whole cc0_stg2_0 _).le
  have h3 : (oM.access (accRect 2 l.1 l.2 d)).setOn Finset.univ ⊆ blkSet 3 l.1 l.2 d := by
    rw [← e1]; exact (View.set_slice_whole cc0_stg2_0 _).le
  unfold relu accAt outAt
  iintro ⟨Hc, ⟨%f, Ho⟩, Hk⟩
  iapply (wp_load 𝒱₀ (d : Thread nD τ) none Set.univ (m := cM) h1) $$ Hc; iintro Hc
  iapply (wp_load 𝒱₀ (d : Thread nD τ) none Set.univ (m := oM) h2) $$ Ho; iintro Ho
  iapply (wp_store 𝒱₀ (d : Thread nD τ) none Set.univ (m := oM) (r := accRect 2 l.1 l.2 d) (Mk := Finset.univ) h3) $$ Ho; iintro Ho
  iapply Hk
  isplitl [Hc]; · iexact Hc
  iapply (Entails.of_eq (pointsTo_congr (g := Contents.out a b) fun i hi =>
    write_rect (ref := cc0_stg2_0) (accRect 2 l.1 l.2 d) _ _ (Contents.out a b) (fun j => Contents.reluPay_eq a b l.1 l.2 d j) i (e1.symm ▸ hi)))
  iexact Ho

/-- The device's block of `A`. -/
def aAt (d : Dev nD) : sProp 𝕄 := ((d : Thread nD τ).loc cc0_stg0_0) ↦{fullShare} (a d)

/-- Writing a half of a group of the partial product. -/
theorem wp_dot (d : Dev nD) (i : Fin 2) (g : Fin 3) (k : PR F) (Q : PUnit → sProp 𝕄) :
    iprop(aAt a d ∗ (∃ f, accAt d (halfSet i g d) f) ∗ ((aAt a d ∗ accAt d (halfSet i g d) (Contents.acc a b 0 d)) -∗ run d k Q))
      ⊢ run d (dot d (b d) i g k) Q := by
  have e1 : (cRect i g d).set = halfSet i g d := set_half i g d
  have h1 : (cM.view.setOn (cRect i g d).set : Finset S1536x1536.Idx) ⊆ halfSet i g d := by
    rw [← e1]; exact (setOn_whole cc0_scratch0 _).le
  have h3 : (cM.access (cRect i g d)).setOn Finset.univ ⊆ halfSet i g d := by
    rw [← e1]; exact (View.set_slice_whole cc0_scratch0 _).le
  have key : ∀ f, ∀ x ∈ halfSet i g d, ((View.whole cc0_scratch0).slice (cRect i g d)).write (Elt F) f (dotPay g (b d) fun j => a d ((aRect i g d).emb j)) Finset.univ x
      = Contents.acc a b 0 d x := fun f x hx =>
    write_rect (ref := cc0_scratch0) (cRect i g d) f _ (Contents.acc a b 0 d) (fun j => Contents.dotPay_eq a b i g d j) x (e1.symm ▸ hx)
  unfold dot aAt accAt
  iintro ⟨Ha, ⟨%f, Hc⟩, Hk⟩
  iapply (wp_load 𝒱₀ (d : Thread nD τ) none Set.univ (m := aM) (Finset.subset_univ _)) $$ Ha; iintro Ha
  rw [show aM.view.readAt (Elt F) (aRect i g d).toLoadRect (a d) = fun j => a d ((aRect i g d).emb j) from rfl]
  iapply (wp_load 𝒱₀ (d : Thread nD τ) none Set.univ (m := cM) h1) $$ Hc; iintro Hc
  iapply (wp_store 𝒱₀ (d : Thread nD τ) none Set.univ (m := cM) (r := cRect i g d) (Mk := Finset.univ) h3) $$ Hc; iintro Hc
  iapply Hk
  isplitl [Ha]; · iexact Ha
  iapply (Entails.of_eq (pointsTo_congr (key f)))
  iexact Hc

/-! ## A lane's turns -/

/-- A block of the accumulator is its two halves; so is a block of the result. -/
theorem acc_halves (s : Fin 3) (l : Lane) (d : Dev nD) (f : S1536x1536.Idx → F .bf16) :
    accAt d (blkSet s.castSucc l.1 l.2 d) f
      ⊢ (iprop(accAt d (blkSet s.succ l.1 l.2 d) f ∗ accAt d (blkSet s.succ l.1 l.2 (peer s l.1 d)) f) : sProp 𝕄) := by
  unfold accAt; rw [blk_split]; exact (pointsTo_union (blk_disjoint s l.1 l.2 d)).1
theorem out_halves (s : Fin 3) (l : Lane) (d : Dev nD) (f : S1536x1536.Idx → F .bf16) :
    (iprop(outAt d (blkSet s.succ l.1 l.2 d) f ∗ outAt d (blkSet s.succ l.1 l.2 (peer s l.1 d)) f) : sProp 𝕄)
      ⊢ outAt d (blkSet s.castSucc l.1 l.2 d) f := by
  unfold outAt; rw [blk_split]; exact (pointsTo_union (blk_disjoint s l.1 l.2 d)).2

/-- What a reduction step leaves behind: the block sent, the block received. -/
def left (d : Dev nD) (s : Fin 3) (l : Lane) : sProp 𝕄 :=
  iprop(slotPay a b d (false, l, false, s) ∗ slotPay a b d (true, l, false, s))

theorem pay_recv (d : Dev nD) (s : Fin 3) (l : Lane) :
    slotPay a b d (true, l, false, s) = recvAt d (recvSet s l.1 l.2) (Contents.recv a b d) := rfl

/-- A lane between reduction steps: step `s` in flight, the rest of the block kept. -/
def reducing (d : Dev nD) (s : Fin 3) (l : Lane) : sProp 𝕄 :=
  iprop(fly d (l, false, s) ∗ accAt d (blkSet s.succ l.1 l.2 d) (Contents.acc a b s.val d))

/-- A turn of reduction: step `s` done, the blocks added, step `s + 1` sent. -/
theorem wp_reduce (d : Dev nD) (s s' : Fin 3) (hs : s.val + 1 = s'.val) (l : Lane) (js : List Job) (hj : ∀ j ∈ (l, false, s') :: js, rank (false, s) < rank j.2)
    (k : PR F) (Q : PUnit → sProp 𝕄) :
    iprop(Ctx a b K d ((l, false, s') :: js) ∗ (reducing a b d s l ∗ pend d (l, false, s'))
        ∗ ((Ctx a b K d js ∗ (reducing a b d s' l ∗ done d (l, false, s) ∗ left a b d s l)) -∗ run d k Q))
      ⊢ run d (waitRs d s l.1 l.2 (accum d s l.1 l.2 (sendRs d s' l.1 l.2 k))) Q := by
  have hs' : s.succ = s'.castSucc := Fin.ext hs
  unfold reducing left
  rw [pay_recv]
  iintro ⟨HC, ⟨⟨Hf, Ha⟩, Hp⟩, Hk⟩
  iapply (wp_waitRs a b K d s l _ hj)
  isplitl [HC]; · iexact HC
  isplitl [Hf]; · iexact Hf
  rw [pay_recv]
  iintro ⟨HC, Hd, HP1, HP2⟩
  iapply (wp_accum a b d s l)
  isplitl [Ha]; · iexact Ha
  isplitl [HP2]; · iexact HP2
  iintro ⟨Ha, HP2⟩
  rw [hs', hs]
  ihave Hh := (acc_halves s' l d (Contents.acc a b s'.val d)) $$ Ha
  icases Hh with ⟨Ha, Hs⟩
  iapply (wp_sendRs a b K d s' l js)
  isplitl [HC]; · iexact HC
  isplitl [Hp]; · iexact Hp
  isplitl [Hs]; · iexact Hs
  iintro ⟨HC, Hf⟩
  iapply Hk
  isplitl [HC]; · iexact HC
  isplitl [Hf Ha]
  · isplitl [Hf] <;> iassumption
  isplitl [Hd]; · iexact Hd
  isplitl [HP1]; · iexact HP1
  iexact HP2

/-- The turn between: the last reduction step done, the reduced block written, the first gathering step sent. -/
theorem wp_turn (d : Dev nD) (l : Lane) (js : List Job) (hj : ∀ j ∈ (l, true, 0) :: js, rank (false, 2) < rank j.2) (k : PR F) (Q : PUnit → sProp 𝕄) :
    iprop(Ctx a b K d ((l, true, 0) :: js) ∗ ((reducing a b d 2 l ∗ pend d (l, true, 0)) ∗ ∃ f, outAt d (blkSet 3 l.1 l.2 d) f)
        ∗ ((Ctx a b K d js ∗ (fly d (l, true, 0) ∗ accAt d (blkSet 3 l.1 l.2 d) (Contents.acc a b 3 d) ∗ done d (l, false, 2) ∗ left a b d 2 l)) -∗ run d k Q))
      ⊢ run d (waitRs d 2 l.1 l.2 (accum d 2 l.1 l.2 (relu d l.1 l.2 (sendAg d 0 l.1 l.2 k)))) Q := by
  unfold reducing left
  rw [pay_recv]
  iintro ⟨HC, ⟨⟨⟨Hf, Ha⟩, Hp⟩, Ho⟩, Hk⟩
  iapply (wp_waitRs a b K d 2 l _ hj)
  isplitl [HC]; · iexact HC
  isplitl [Hf]; · iexact Hf
  rw [pay_recv]
  iintro ⟨HC, Hd, HP1, HP2⟩
  iapply (wp_accum a b d 2 l)
  isplitl [Ha]; · iexact Ha
  isplitl [HP2]; · iexact HP2
  iintro ⟨Ha, HP2⟩
  iapply (wp_relu a b d l)
  isplitl [Ha]; · iexact Ha
  isplitl [Ho]; · iexact Ho
  iintro ⟨Ha, Ho⟩
  iapply (wp_sendAg a b K d 0 l js)
  isplitl [HC]; · iexact HC
  isplitl [Hp]; · iexact Hp
  isplitl [Ho]; · iexact Ho
  iintro ⟨HC, Hf⟩
  iapply Hk
  isplitl [HC]; · iexact HC
  isplitl [Hf]; · iexact Hf
  isplitl [Ha]; · iexact Ha
  isplitl [Hd]; · iexact Hd
  isplitl [HP1]; · iexact HP1
  iexact HP2

/-- The two halves a gathering step brings together. -/
theorem gathered (d : Dev nD) (s : Fin 3) (l : Lane) :
    iprop(slotPay a b d (false, l, true, s) ∗ slotPay a b d (true, l, true, s)) ⊢ outAt d (blkSet s.rev.castSucc l.1 l.2 d) (Contents.out a b) :=
  out_halves s.rev l d (Contents.out a b)

/-- A turn of gathering: step `s` done, step `s + 1` sent. -/
theorem wp_gather (d : Dev nD) (s s' : Fin 3) (hs : s.val + 1 = s'.val) (l : Lane) (js : List Job) (hj : ∀ j ∈ (l, true, s') :: js, rank (true, s) < rank j.2)
    (k : PR F) (Q : PUnit → sProp 𝕄) :
    iprop(Ctx a b K d ((l, true, s') :: js) ∗ (fly d (l, true, s) ∗ pend d (l, true, s'))
        ∗ ((Ctx a b K d js ∗ (fly d (l, true, s') ∗ done d (l, true, s))) -∗ run d k Q))
      ⊢ run d (waitAg d s l.1 l.2 (sendAg d s' l.1 l.2 k)) Q := by
  have hs' : s.rev.castSucc = s'.rev.succ := Fin.ext (by
    have h1 := Fin.val_rev s; have h2 := Fin.val_rev s'
    simp only [Fin.val_castSucc, Fin.val_succ]; omega)
  iintro ⟨HC, ⟨Hf, Hp⟩, Hk⟩
  iapply (wp_waitAg a b K d s l _ hj)
  isplitl [HC]; · iexact HC
  isplitl [Hf]; · iexact Hf
  iintro ⟨HC, Hd, HP⟩
  ihave Ho := (gathered a b d s l) $$ HP
  rw [hs']
  iapply (wp_sendAg a b K d s' l js)
  isplitl [HC]; · iexact HC
  isplitl [Hp]; · iexact Hp
  isplitl [Ho]; · iexact Ho
  iintro ⟨HC, Hf⟩
  iapply Hk
  isplitl [HC]; · iexact HC
  isplitl [Hf]; · iexact Hf
  iexact Hd

/-- The last turn: the last gathering step done. -/
theorem wp_last (d : Dev nD) (l : Lane) (k : PR F) (Q : PUnit → sProp 𝕄) :
    iprop(Ctx a b K d [] ∗ fly d (l, true, 2)
        ∗ ((Ctx a b K d [] ∗ (done d (l, true, 2) ∗ outAt d (blkSet 0 l.1 l.2 d) (Contents.out a b))) -∗ run d k Q))
      ⊢ run d (waitAg d 2 l.1 l.2 k) Q := by
  iintro ⟨HC, Hf, Hk⟩
  iapply (wp_waitAg a b K d 2 l [] (fun j h => absurd h List.not_mem_nil))
  isplitl [HC]; · iexact HC
  isplitl [Hf]; · iexact Hf
  iintro ⟨HC, Hd, HP⟩
  ihave Ho := (gathered a b d 2 l) $$ HP
  iapply Hk
  isplitl [HC]; · iexact HC
  isplitl [Hd]; · iexact Hd
  iexact Ho

/-! ## A loop -/

theorem sep_insert {α : Type} [DecidableEq α] {x : α} {s : Finset α} (hx : x ∉ s) (A : α → sProp 𝕄) :
    bigSep (insert x s) A = iprop(A x ∗ bigSep s A) := bigSep_insert hx

/-- A loop over a list: each turn takes one member's `A` to its `B`, and the shared `I` along the list. -/
theorem wp_each {α : Type} [DecidableEq α] (d : Dev nD) (f : α → PR F → PR F) (I : List α → sProp 𝕄) (A B : α → sProp 𝕄) (Q : PUnit → sProp 𝕄) :
    ∀ l : List α, l.Nodup → (∀ x xs k, iprop(I (x :: xs) ∗ A x ∗ ((I xs ∗ B x) -∗ run d k Q)) ⊢ run d (f x k) Q) →
      ∀ k, iprop(I l ∗ bigSep l.toFinset A ∗ ((I [] ∗ bigSep l.toFinset B) -∗ run d k Q)) ⊢ run d (each l f k) Q
  | [], _, _, k => by
    unfold each
    iintro ⟨HI, -, Hk⟩
    iapply Hk
    isplitl [HI]; · iexact HI
    rw [List.toFinset_nil, bigSep_empty]; iempintro
  | x :: xs, hl, h, k => by
    have hx : x ∉ xs.toFinset := fun hx => (List.nodup_cons.mp hl).1 (List.mem_toFinset.mp hx)
    rw [List.toFinset_cons, sep_insert hx, sep_insert hx]
    iintro ⟨HI, ⟨HA, Hxs⟩, Hk⟩
    iapply (h x xs (each xs f k))
    isplitl [HI]; · iexact HI
    isplitl [HA]; · iexact HA
    iintro ⟨HI, HB⟩
    iapply (wp_each d f I A B Q xs (List.nodup_cons.mp hl).2 h k)
    isplitl [HI]; · iexact HI
    isplitl [Hxs]; · iexact Hxs
    iintro ⟨HI, HBs⟩
    iapply Hk
    isplitl [HI]; · iexact HI
    isplitl [HB]; · iexact HB
    iexact HBs

end Cert.KernelIdeal.Protocol
-- ==== Proof.Deal.lean ====
module

public import proofs.«01_k».proof.Proof.Moves

/-!
# Dealing the buffers out, and gathering them in

The accumulator, the receive buffer and the result cut into the pieces the jobs move; what a device hands its partners at the barrier,
and what it gets from them; the pieces brought together at the end.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Regrouping -/

theorem sep_fin2 (Φ : Fin 2 → sProp 𝕄) : bigSep Finset.univ Φ = iprop(Φ 0 ∗ Φ 1) := bigSep_univ_eq_bigSepL [0, 1] (by decide) (by decide) Φ
theorem sep_fin3 (Φ : Fin 3 → sProp 𝕄) : bigSep Finset.univ Φ = iprop(Φ 0 ∗ Φ 1 ∗ Φ 2) := bigSep_univ_eq_bigSepL [0, 1, 2] (by decide) (by decide) Φ

theorem add_sub' : ∀ g k : Fin 3, g + (k - g) = k := by decide

theorem sub_add' : ∀ g s : Fin 3, (g + s) - g = s := by decide
/-- The dimensions of the mesh in the order group `g` uses them. -/
def turn (g : Fin 3) : Fin 3 ≃ Fin 3 := ⟨fun k => k - g, fun s => g + s, add_sub' g, sub_add' g⟩

theorem sep_mono' {I : Type} {s : Finset I} {Φ Ψ : I → sProp 𝕄} (h : ∀ i ∈ s, Φ i ⊢ Ψ i) : bigSep s Φ ⊢ bigSep s Ψ := bigSep_mono h

/-- A family over the jobs, dimension by dimension of the mesh. -/
theorem by_dim (Φ : Job → sProp 𝕄) :
    (iprop((bigSep Finset.univ fun l : Lane => bigSep Finset.univ fun s : Fin 3 => Φ (l, false, s))
        ∗ bigSep Finset.univ fun l : Lane => bigSep Finset.univ fun s : Fin 3 => Φ (l, true, s)) : sProp 𝕄)
      = bigSep Finset.univ fun k : Fin 3 => bigSep Finset.univ fun l : Lane => iprop(Φ (l, false, k - l.1) ∗ Φ (l, true, (k - l.1).rev)) := by
  rw [← bigSep_sep', Pipeline.bigSep_univ_comm fun (k : Fin 3) (l : Lane) => iprop(Φ (l, false, k - l.1) ∗ Φ (l, true, (k - l.1).rev))]
  refine bigSep_congr fun l _ => ?_
  rw [bigSep_sep']
  congr 1
  · exact bigSep_univ_equiv (turn l.1) fun s => Φ (l, false, s)
  · exact bigSep_univ_equiv ((turn l.1).trans Fin.revPerm) fun s => Φ (l, true, s)

/-- What a device hands its partners at the barrier: every place its jobs land in. -/
theorem give (d : Dev nD) :
    (iprop((bigSep Finset.univ fun l : Lane => bigSep Finset.univ fun s : Fin 3 => hole d (l, false, s))
        ∗ bigSep Finset.univ fun l : Lane => bigSep Finset.univ fun s : Fin 3 => hole d (l, true, s)) : sProp 𝕄)
      ⊢ bigSep Finset.univ fun k : Fin 3 => barPay (partner k d) k := by
  rw [by_dim]
  unfold barPay holes
  exact Entails.of_eq (bigSep_congr fun k _ => by rw [partner_partner])

/-- What it gets: every place its jobs' copies are to land in. -/
theorem take (d : Dev nD) :
    (bigSep Finset.univ fun k : Fin 3 => (barPay d k : sProp 𝕄))
      ⊢ iprop((bigSep Finset.univ fun l : Lane => bigSep Finset.univ fun s : Fin 3 => hole (pal (l, false, s) d) (l, false, s))
        ∗ bigSep Finset.univ fun l : Lane => bigSep Finset.univ fun s : Fin 3 => hole (pal (l, true, s) d) (l, true, s)) := by
  rw [by_dim fun j => hole (pal j d) j]
  unfold barPay holes
  refine Entails.of_eq (bigSep_congr fun k _ => bigSep_congr fun l _ => ?_)
  have h1 : pal (l, false, k - l.1) d = partner k d := by show partner (l.1 + (k - l.1)) d = _; rw [add_sub']
  have h2 : pal (l, true, (k - l.1).rev) d = partner k d := by show partner (l.1 + (k - l.1).rev.rev) d = _; rw [Fin.rev_rev, add_sub']
  rw [h1, h2]

/-! ## Cutting -/

theorem some_acc (d : Dev nD) (S : Finset S1536x1536.Idx) (f : S1536x1536.Idx → F .bf16) : (accAt d S f : sProp 𝕄) ⊢ iprop(∃ f, accAt d S f) := by
  iintro H; iexists f; iexact H
theorem some_out (d : Dev nD) (S : Finset S1536x1536.Idx) (f : S1536x1536.Idx → F .bf16) : (outAt d S f : sProp 𝕄) ⊢ iprop(∃ f, outAt d S f) := by
  iintro H; iexists f; iexact H
theorem some_recv (d : Dev nD) (S : Finset S1344x1536.Idx) (f : S1344x1536.Idx → F .bf16) : (recvAt d S f : sProp 𝕄) ⊢ iprop(∃ f, recvAt d S f) := by
  iintro H; iexists f; iexact H

/-- The accumulator's halves. -/
theorem acc_cut (d : Dev nD) :
    (iprop(∃ f, accAt d Finset.univ f) : sProp 𝕄)
      ⊢ iprop((bigSep Finset.univ fun g : Fin 3 => iprop(∃ f, accAt d (halfSet 0 g d) f)) ∗ bigSep Finset.univ fun g : Fin 3 => iprop(∃ f, accAt d (halfSet 1 g d) f)) := by
  iintro ⟨%f, H⟩
  have h : (accAt d Finset.univ f : sProp 𝕄) = bigSep Finset.univ fun p : Fin 2 × Fin 3 => accAt d (halfSet p.1 p.2 d) f := by
    unfold accAt; rw [halves_univ d]; exact pointsTo_biUnion _ _ (halves_disjoint d)
  ihave H := (Entails.of_eq (h.trans ((bigSep_univ_prod _).trans (sep_fin2 _)))) $$ H
  icases H with ⟨H0, H1⟩
  isplitl [H0]
  · iapply (sep_mono' (s := Finset.univ) fun (g : Fin 3) _ => some_acc d (halfSet 0 g d) f); iexact H0
  · iapply (sep_mono' (s := Finset.univ) fun (g : Fin 3) _ => some_acc d (halfSet 1 g d) f); iexact H1

/-- A half's chunks. -/
theorem acc_chunks (d : Dev nD) (i : Fin 2) (g : Fin 3) (f : S1536x1536.Idx → F .bf16) :
    (accAt d (halfSet i g d) f : sProp 𝕄) = bigSep Finset.univ fun c : Fin 4 => accAt d (blkSet 1 g c (side i g d)) f := by
  unfold accAt; rw [half_chunks i g d]; exact pointsTo_biUnion _ _ (chunks_disjoint 1 g _)

/-- The result's lanes. -/
theorem out_lanes (d : Dev nD) (f : S1536x1536.Idx → F .bf16) :
    (outAt d Finset.univ f : sProp 𝕄) = bigSep Finset.univ fun l : Lane => outAt d (blkSet 0 l.1 l.2 d) f := by
  unfold outAt; rw [lanes_univ d]; exact pointsTo_biUnion _ _ (lanes_disjoint d)

/-- A lane of the result: the block this device writes, and the three places its partners write. -/
theorem out_lane (d : Dev nD) (l : Lane) (f : S1536x1536.Idx → F .bf16) :
    (outAt d (blkSet 0 l.1 l.2 d) f : sProp 𝕄) ⊢ iprop((∃ f, outAt d (blkSet 3 l.1 l.2 d) f) ∗ bigSep Finset.univ fun s : Fin 3 => hole d (l, true, s)) := by
  have h (s : Fin 3) : (outAt d (blkSet s.castSucc l.1 l.2 d) f : sProp 𝕄)
      ⊢ iprop(outAt d (blkSet s.succ l.1 l.2 d) f ∗ outAt d (blkSet s.succ l.1 l.2 (peer s l.1 d)) f) := by
    unfold outAt; rw [blk_split]; exact (pointsTo_union (blk_disjoint s l.1 l.2 d)).1
  rw [sep_fin3]
  iintro H
  ihave H := (show (outAt d (blkSet 0 l.1 l.2 d) f : sProp 𝕄) ⊢ iprop(outAt d (blkSet 1 l.1 l.2 d) f ∗ outAt d (blkSet 1 l.1 l.2 (peer 0 l.1 d)) f) from h 0) $$ H
  icases H with ⟨H, H2⟩
  ihave H := (show (outAt d (blkSet 1 l.1 l.2 d) f : sProp 𝕄) ⊢ iprop(outAt d (blkSet 2 l.1 l.2 d) f ∗ outAt d (blkSet 2 l.1 l.2 (peer 1 l.1 d)) f) from h 1) $$ H
  icases H with ⟨H, H1⟩
  ihave H := (show (outAt d (blkSet 2 l.1 l.2 d) f : sProp 𝕄) ⊢ iprop(outAt d (blkSet 3 l.1 l.2 d) f ∗ outAt d (blkSet 3 l.1 l.2 (peer 2 l.1 d)) f) from h 2) $$ H
  icases H with ⟨H, H0⟩
  isplitl [H]; · iexists f; iexact H
  unfold hole
  isplitl [H0]; · iexists f; iexact H0
  isplitl [H1]; · iexists f; iexact H1
  iexists f; iexact H2

theorem out_cut (d : Dev nD) :
    (iprop(∃ f, outAt d Finset.univ f) : sProp 𝕄)
      ⊢ iprop((bigSep Finset.univ fun l : Lane => iprop(∃ f, outAt d (blkSet 3 l.1 l.2 d) f))
        ∗ bigSep Finset.univ fun l : Lane => bigSep Finset.univ fun s : Fin 3 => hole d (l, true, s)) := by
  rw [← bigSep_sep']
  iintro ⟨%f, H⟩
  iapply ((Entails.of_eq (out_lanes d f)).trans (bigSep_mono fun l _ => out_lane d l f)); iexact H

/-- The receive buffer's places. -/
theorem recv_places (d : Dev nD) (f : S1344x1536.Idx → F .bf16) :
    (recvAt d Finset.univ f : sProp 𝕄) = bigSep Finset.univ fun l : Lane => bigSep Finset.univ fun s : Fin 3 => recvAt d (recvSet s l.1 l.2) f := by
  rw [← bigSep_univ_prod fun p : Lane × Fin 3 => recvAt d (recvSet p.2 p.1.1 p.1.2) f]
  unfold recvAt; rw [recv_univ]; exact pointsTo_biUnion _ _ recv_disjoint

theorem recv_cut (d : Dev nD) :
    (iprop(∃ f, recvAt d Finset.univ f) : sProp 𝕄) ⊢ bigSep Finset.univ fun l : Lane => bigSep Finset.univ fun s : Fin 3 => hole d (l, false, s) := by
  iintro ⟨%f, H⟩
  iapply ((Entails.of_eq (recv_places d f)).trans
    (bigSep_mono fun l _ => bigSep_mono fun s _ => (some_recv d (recvSet s l.1 l.2) f : _ ⊢ hole d (l, false, s)))); iexact H

/-! ## Gathering in -/

variable (a : Dev nD → Vec F S1536x768 .bf16) (b : Dev nD → Vec F S768x1536 .bf16) (K : Name → ℕ)

/-- A lane of the accumulator after the last step. -/
theorem acc_lane (d : Dev nD) (l : Lane) :
    (iprop(slotPay a b d (false, l, false, 0) ∗ slotPay a b d (false, l, false, 1) ∗ slotPay a b d (false, l, false, 2)
        ∗ accAt d (blkSet 3 l.1 l.2 d) (Contents.acc a b 3 d)) : sProp 𝕄)
      ⊢ iprop(∃ f, accAt d (blkSet 0 l.1 l.2 d) f) := by
  have h (s : Fin 3) (f g : S1536x1536.Idx → F .bf16) :
      (iprop(accAt d (blkSet s.succ l.1 l.2 d) f ∗ accAt d (blkSet s.succ l.1 l.2 (peer s l.1 d)) g) : sProp 𝕄)
        ⊢ iprop(∃ f, accAt d (blkSet s.castSucc l.1 l.2 d) f) := by
    unfold accAt; rw [blk_split]
    exact (pointsTo_join (blk_disjoint s l.1 l.2 d)).trans (some_acc d _ _)
  show iprop(accAt d (blkSet 1 l.1 l.2 (peer 0 l.1 d)) _ ∗ accAt d (blkSet 2 l.1 l.2 (peer 1 l.1 d)) _ ∗ accAt d (blkSet 3 l.1 l.2 (peer 2 l.1 d)) _ ∗ _) ⊢ _
  iintro ⟨H0, H1, H2, H⟩
  ihave H := (h 2 _ _) $$ [H H2]
  · isplitl [H]; · iexact H
    iexact H2
  icases H with ⟨%f2, H⟩
  ihave H := (h 1 _ _) $$ [H H1]
  · isplitl [H]; · iexact H
    iexact H1
  icases H with ⟨%f1, H⟩
  iapply (h 0 f1 _)
  isplitl [H]; · iexact H
  iexact H0

/-- The whole accumulator from its lanes. -/
theorem acc_whole (d : Dev nD) :
    (bigSep Finset.univ fun l : Lane => (iprop(∃ f, accAt d (blkSet 0 l.1 l.2 d) f) : sProp 𝕄)) ⊢ iprop(∃ f, accAt d Finset.univ f) := by
  haveI : Nonempty (F .bf16) := ⟨Scalar.ofBits .bf16 0⟩
  haveI : Nonempty (S1536x1536.Idx → F .bf16) := inferInstance
  iintro H
  ihave H := (BI.bigSep_exists_pi Finset.univ (fun (l : Lane) (f : S1536x1536.Idx → F .bf16) => (accAt d (blkSet 0 l.1 l.2 d) f : sProp 𝕄))) $$ H
  icases H with ⟨%f, H⟩
  have hj := pointsTo_biUnion_join (Ix := Unit) (Name := ℕ) (U := UU) (Lvl := ℕ) (Val := Elt F) (ℓ := (d : Thread nD τ).loc cc0_scratch0) (q := fullShare)
    Finset.univ (fun l : Lane => blkSet 0 l.1 l.2 d) f (f (0, 0)) (lanes_disjoint d)
  unfold accAt
  ihave H := hj $$ H
  icases H with ⟨%g, -, H⟩
  iexists g
  rw [lanes_univ d]; iexact H

/-- What the reduction steps left, gathered in: both scratch buffers whole. -/
theorem scratch_whole (d : Dev nD) :
    (iprop((bigSep Finset.univ fun l : Lane => left a b d 0 l) ∗ (bigSep Finset.univ fun l : Lane => left a b d 1 l)
        ∗ (bigSep Finset.univ fun l : Lane => left a b d 2 l) ∗ bigSep Finset.univ fun l : Lane => accAt d (blkSet 3 l.1 l.2 d) (Contents.acc a b 3 d)) : sProp 𝕄)
      ⊢ iprop((∃ f, accAt d Finset.univ f) ∗ ∃ f, recvAt d Finset.univ f) := by
  unfold left
  simp only [bigSep_sep']
  iintro ⟨⟨H0, R0⟩, ⟨H1, R1⟩, ⟨H2, R2⟩, H⟩
  isplitl [H0 H1 H2 H]
  · have hm := sep_mono' (s := Finset.univ) fun (l : Lane) _ => acc_lane a b d l
    iapply (acc_whole d)
    iapply hm
    simp only [bigSep_sep']
    isplitl [H0]; · iexact H0
    isplitl [H1]; · iexact H1
    isplitl [H2]; · iexact H2
    iexact H
  · iexists (Contents.recv a b d)
    rw [recv_places]
    simp only [sep_fin3, bigSep_sep']
    isplitl [R0]; · iexact R0
    isplitl [R1]; · iexact R1
    iexact R2

/-- A job's two cells closed. -/
theorem close_job (d : Dev nD) (j : Job) : iprop(records a b K ∗ done d j) ⊢ |={Set.univ}=> iprop(semVal (sendCell d j) 0 ∗ semVal (recvCell d j) 0) := by
  unfold done
  iintro ⟨#HR, H1, H2⟩
  imod (Rounds.cell_close ER (Rd a b) (Set.mem_univ (K (d, some (false, j)))) (fun h => h) (R := 0 + 1) (duties_later a b (sendCell d j))) $$ [H1] with HS
  · isplitr; · iapply (inv_at a b K (d, some (false, j))); iexact HR
    iexact H1
  imod (Rounds.cell_close ER (Rd a b) (Set.mem_univ (K (d, some (true, j)))) (fun h => h) (R := 0 + 1) (duties_later a b (recvCell d j))) $$ [H2] with HV
  · isplitr; · iapply (inv_at a b K (d, some (true, j))); iexact HR
    iexact H2
  imodintro
  isplitl [HS] <;> iassumption

/-- A family over the jobs, step by step. -/
theorem by_step (Φ : Job → sProp 𝕄) :
    bigSep Finset.univ Φ
      = iprop((bigSep Finset.univ fun l : Lane => Φ (l, false, 0)) ∗ (bigSep Finset.univ fun l : Lane => Φ (l, false, 1)) ∗ (bigSep Finset.univ fun l : Lane => Φ (l, false, 2))
        ∗ (bigSep Finset.univ fun l : Lane => Φ (l, true, 0)) ∗ (bigSep Finset.univ fun l : Lane => Φ (l, true, 1)) ∗ bigSep Finset.univ fun l : Lane => Φ (l, true, 2)) := by
  rw [bigSep_univ_prod]
  have h (l : Lane) : (bigSep Finset.univ fun p : Bool × Fin 3 => Φ (l, p))
      = iprop(Φ (l, false, 0) ∗ Φ (l, false, 1) ∗ Φ (l, false, 2) ∗ Φ (l, true, 0) ∗ Φ (l, true, 1) ∗ Φ (l, true, 2)) :=
    bigSep_univ_eq_bigSepL [(false, 0), (false, 1), (false, 2), (true, 0), (true, 1), (true, 2)] (by decide) (by decide) fun p => Φ (l, p)
  rw [bigSep_congr fun l _ => h l]
  simp only [bigSep_sep']

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every job's cells closed. -/
theorem close_jobs (d : Dev nD) :
    iprop(records a b K ∗ bigSep Finset.univ fun j : Job => done d j) ⊢ |={Set.univ}=> bigSep Finset.univ fun x : Slot => (semVal (slotCell d x) 0 : sProp 𝕄) := by
  refine ((with_persistent fun j _ => close_job a b K d j).trans (bigSep_fupd _ _)).trans (BI.fupd_mono ?_)
  rw [bigSep_sep']
  refine Entails.of_eq (Eq.symm ((bigSep_univ_prod _).trans ?_))
  rw [bigSep_univ_eq_bigSepL [false, true] (by decide) (by decide), bigSepL_cons_cons, bigSepL_singleton]
  rfl

end Cert.KernelIdeal.Protocol
-- ==== Proof.Loops.lean ====
module

public import proofs.«01_k».proof.Proof.Deal

/-!
# The seven loops

Each of the body's loops, over every lane at once: what it needs and what it leaves.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .bf16) (b : Dev nD → Vec F S768x1536 .bf16) (K : Name → ℕ)

/-- One resource for every lane. -/
abbrev lanewise (Φ : Lane → sProp 𝕄) : sProp 𝕄 := bigSep Finset.univ Φ

/-- The jobs of the steps `ps`, lane by lane in each. -/
def later (ps : List (Bool × Fin 3)) : List Job := ps.flatMap fun p => lanes.map fun l => (l, p)
/-- The jobs group `g` sends first. -/
def first (g : Fin 3) : List Job := [0, 1, 2, 3].map fun c : Fin 4 => ((g, c), false, 0)
/-- Every job, in the order in which the body sends them. -/
def jobs : List Job := [0, 1, 2].flatMap first ++ later [(false, 1), (false, 2), (true, 0), (true, 1), (true, 2)]

/-- A job of a loop under way, or of a later step, ranks above `r` when those steps do. -/
theorem ahead {r : ℕ} {p : Bool × Fin 3} {ps : List (Bool × Fin 3)} (h : ∀ q ∈ p :: ps, r < rank q) (xs : List Lane) :
    ∀ j ∈ (xs.map fun l => ((l, p) : Job)) ++ later ps, r < rank j.2 := by
  intro j hj
  rcases List.mem_append.mp hj with hj | hj
  · obtain ⟨l, -, rfl⟩ := List.mem_map.mp hj
    exact h p List.mem_cons_self
  · obtain ⟨q, hq, hj⟩ := List.mem_flatMap.mp hj
    obtain ⟨l, -, rfl⟩ := List.mem_map.mp hj
    exact h q (List.mem_cons_of_mem _ hq)

theorem lanes_nodup : lanes.Nodup := by decide
theorem lanes_all : lanes.toFinset = Finset.univ := by decide

/-- A loop over the lanes. -/
theorem wp_lanes (d : Dev nD) (f : Lane → PR F → PR F) (I : List Lane → sProp 𝕄) (A B : Lane → sProp 𝕄) (Q : PUnit → sProp 𝕄)
    (h : ∀ x xs k, iprop(I (x :: xs) ∗ A x ∗ ((I xs ∗ B x) -∗ run d k Q)) ⊢ run d (f x k) Q) (k : PR F) :
    iprop(I lanes ∗ lanewise A ∗ ((I [] ∗ lanewise B) -∗ run d k Q)) ⊢ run d (each lanes f k) Q := by
  have := wp_each d f I A B Q lanes lanes_nodup h k
  rw [lanes_all] at this
  exact this

/-- A loop over the groups. -/
theorem wp_groups (d : Dev nD) (f : Fin 3 → PR F → PR F) (I : List (Fin 3) → sProp 𝕄) (A B : Fin 3 → sProp 𝕄) (Q : PUnit → sProp 𝕄)
    (h : ∀ x xs k, iprop(I (x :: xs) ∗ A x ∗ ((I xs ∗ B x) -∗ run d k Q)) ⊢ run d (f x k) Q) (k : PR F) :
    iprop(I [0, 1, 2] ∗ bigSep Finset.univ A ∗ ((I [] ∗ bigSep Finset.univ B) -∗ run d k Q)) ⊢ run d (each [0, 1, 2] f k) Q := by
  have := wp_each d f I A B Q [0, 1, 2] (by decide) h k
  rw [show ([0, 1, 2] : List (Fin 3)).toFinset = Finset.univ by decide] at this
  exact this

/-- A loop over the chunks. -/
theorem wp_chunks (d : Dev nD) (f : Fin 4 → PR F → PR F) (I : List (Fin 4) → sProp 𝕄) (A B : Fin 4 → sProp 𝕄) (Q : PUnit → sProp 𝕄)
    (h : ∀ x xs k, iprop(I (x :: xs) ∗ A x ∗ ((I xs ∗ B x) -∗ run d k Q)) ⊢ run d (f x k) Q) (k : PR F) :
    iprop(I [0, 1, 2, 3] ∗ bigSep Finset.univ A ∗ ((I [] ∗ bigSep Finset.univ B) -∗ run d k Q)) ⊢ run d (each [0, 1, 2, 3] f k) Q := by
  have := wp_each d f I A B Q [0, 1, 2, 3] (by decide) h k
  rw [show ([0, 1, 2, 3] : List (Fin 4)).toFinset = Finset.univ by decide] at this
  exact this

/-- A family over the lanes, group by group. -/
theorem by_group (Φ : Lane → sProp 𝕄) : lanewise Φ = bigSep Finset.univ fun g : Fin 3 => bigSep Finset.univ fun c : Fin 4 => Φ (g, c) :=
  BI.bigSep_univ_prod Φ

/-- The first product of one group, and its four blocks sent. -/
theorem wp_open (d : Dev nD) (g : Fin 3) (js : List Job) (k : PR F) (Q : PUnit → sProp 𝕄) :
    iprop((Ctx a b K d (first g ++ js) ∗ aAt a d) ∗ ((∃ f, accAt d (halfSet 0 g d) f) ∗ bigSep Finset.univ fun c : Fin 4 => pend d ((g, c), false, 0))
        ∗ (((Ctx a b K d js ∗ aAt a d) ∗ bigSep Finset.univ fun c : Fin 4 => fly d ((g, c), false, 0)) -∗ run d k Q))
      ⊢ run d (dot d (b d) 0 g (each [0, 1, 2, 3] (fun c k => sendRs d 0 g c k) k)) Q := by
  iintro ⟨⟨HC, Ha⟩, ⟨Hh, Hp⟩, Hk⟩
  iapply (wp_dot a b d 0 g)
  isplitl [Ha]; · iexact Ha
  isplitl [Hh]; · iexact Hh
  iintro ⟨Ha, Hh⟩
  ihave Hs := (Entails.of_eq (acc_chunks d 0 g (Contents.acc a b 0 d))) $$ Hh
  iapply (wp_chunks d (fun c k => sendRs d 0 g c k) (fun cs => Ctx a b K d ((cs.map fun c : Fin 4 => ((g, c), false, 0)) ++ js))
    (fun c => iprop(pend d ((g, c), false, 0) ∗ accAt d (blkSet 1 g c (side 0 g d)) (Contents.acc a b 0 d))) (fun c => fly d ((g, c), false, 0)) Q ?_ k)
  · intro c cs k
    iintro ⟨HC, ⟨Hp, Hs⟩, Hk⟩
    iapply (wp_sendRs a b K d 0 (g, c) ((cs.map fun c : Fin 4 => ((g, c), false, 0)) ++ js))
    isplitl [HC]; · iexact HC
    isplitl [Hp]; · iexact Hp
    isplitl [Hs]; · iexact Hs
    iexact Hk
  isplitl [HC]; · iexact HC
  isplitl [Hp Hs]
  · rw [bigSep_sep']
    isplitl [Hp]; · iexact Hp
    iexact Hs
  iintro ⟨HC, Hf⟩
  iapply Hk
  isplitl [HC Ha]
  · isplitl [HC]; · iexact HC
    iexact Ha
  iexact Hf

/-- The first loop: the halves the first step sends, multiplied out and sent. -/
theorem loop_open (d : Dev nD) (js : List Job) (k : PR F) (Q : PUnit → sProp 𝕄) :
    iprop(Ctx a b K d ([0, 1, 2].flatMap first ++ js) ∗ aAt a d ∗ (bigSep Finset.univ fun g : Fin 3 => iprop(∃ f, accAt d (halfSet 0 g d) f))
        ∗ lanewise (fun l => pend d (l, false, 0))
        ∗ ((Ctx a b K d js ∗ aAt a d ∗ lanewise (fun l => fly d (l, false, 0))) -∗ run d k Q))
      ⊢ run d (each [0, 1, 2] (fun g k => dot d (b d) 0 g (each [0, 1, 2, 3] (fun c k => sendRs d 0 g c k) k)) k) Q := by
  have h := wp_groups d (fun g k => dot d (b d) 0 g (each [0, 1, 2, 3] (fun c k => sendRs d 0 g c k) k))
    (fun gs => iprop(Ctx a b K d (gs.flatMap first ++ js) ∗ aAt a d))
    (fun g => iprop((∃ f, accAt d (halfSet 0 g d) f) ∗ bigSep Finset.univ fun c : Fin 4 => pend d ((g, c), false, 0)))
    (fun g => bigSep Finset.univ fun c : Fin 4 => fly d ((g, c), false, 0)) Q
    (fun g gs k => by
      rw [List.flatMap_cons, List.append_assoc]
      exact wp_open a b K d g _ k Q) k
  rw [bigSep_sep', ← by_group fun l => pend d (l, false, 0), ← by_group fun l => fly d (l, false, 0)] at h
  iintro ⟨HC, Ha, Hh, Hp, Hk⟩
  iapply h
  isplitl [HC Ha]
  · isplitl [HC]; · iexact HC
    iexact Ha
  isplitl [Hh Hp]
  · isplitl [Hh]; · iexact Hh
    iexact Hp
  iintro ⟨⟨HC, Ha⟩, Hf⟩
  iapply Hk
  isplitl [HC]; · iexact HC
  isplitl [Ha]; · iexact Ha
  iexact Hf

/-- The second loop: the halves the device keeps. -/
theorem loop_keep (d : Dev nD) (k : PR F) (Q : PUnit → sProp 𝕄) :
    iprop(aAt a d ∗ (bigSep Finset.univ fun g : Fin 3 => iprop(∃ f, accAt d (halfSet 1 g d) f))
        ∗ ((aAt a d ∗ lanewise (fun l => accAt d (blkSet 1 l.1 l.2 d) (Contents.acc a b 0 d))) -∗ run d k Q))
      ⊢ run d (each [0, 1, 2] (fun g k => dot d (b d) 1 g k) k) Q := by
  have h := wp_groups d (fun g k => dot d (b d) 1 g k) (fun _ => aAt a d) (fun g => iprop(∃ f, accAt d (halfSet 1 g d) f))
    (fun g => accAt d (halfSet 1 g d) (Contents.acc a b 0 d)) Q (fun g gs k => wp_dot a b d 1 g k Q) k
  have e : (bigSep Finset.univ fun g : Fin 3 => (accAt d (halfSet 1 g d) (Contents.acc a b 0 d) : sProp 𝕄))
      = lanewise (fun l => accAt d (blkSet 1 l.1 l.2 d) (Contents.acc a b 0 d)) := by
    rw [by_group]
    exact bigSep_congr fun g _ => acc_chunks d 1 g (Contents.acc a b 0 d)
  rw [e] at h
  exact h

/-- A reduction step over every lane. -/
theorem loop_reduce (d : Dev nD) (s s' : Fin 3) (hs : s.val + 1 = s'.val) (ps : List (Bool × Fin 3)) (h : ∀ q ∈ (false, s') :: ps, rank (false, s) < rank q)
    (k : PR F) (Q : PUnit → sProp 𝕄) :
    iprop(Ctx a b K d (later ((false, s') :: ps)) ∗ lanewise (reducing a b d s) ∗ lanewise (fun l => pend d (l, false, s'))
        ∗ ((Ctx a b K d (later ps) ∗ lanewise (reducing a b d s') ∗ lanewise (fun l => done d (l, false, s)) ∗ lanewise (left a b d s)) -∗ run d k Q))
      ⊢ run d (each lanes (fun l k => waitRs d s l.1 l.2 (accum d s l.1 l.2 (sendRs d s' l.1 l.2 k))) k) Q := by
  have w := wp_lanes d (fun l k => waitRs d s l.1 l.2 (accum d s l.1 l.2 (sendRs d s' l.1 l.2 k)))
    (fun xs => Ctx a b K d ((xs.map fun l => ((l, false, s') : Job)) ++ later ps))
    (fun l => iprop(reducing a b d s l ∗ pend d (l, false, s')))
    (fun l => iprop(reducing a b d s' l ∗ done d (l, false, s) ∗ left a b d s l)) Q
    (fun l xs k => wp_reduce a b K d s s' hs l _ (ahead h (l :: xs)) k Q) k
  simp only [lanewise, bigSep_sep'] at w
  iintro ⟨HC, Hr, Hp, Hk⟩
  iapply w
  isplitl [HC]; · iexact HC
  isplitl [Hr Hp]
  · isplitl [Hr]; · iexact Hr
    iexact Hp
  iexact Hk

/-- The last reduction step over every lane, and the first gathering step sent. -/
theorem loop_turn (d : Dev nD) (ps : List (Bool × Fin 3)) (h : ∀ q ∈ (true, 0) :: ps, rank (false, 2) < rank q) (k : PR F) (Q : PUnit → sProp 𝕄) :
    iprop(Ctx a b K d (later ((true, 0) :: ps)) ∗ lanewise (reducing a b d 2) ∗ lanewise (fun l => pend d (l, true, 0))
        ∗ lanewise (fun l => iprop(∃ f, outAt d (blkSet 3 l.1 l.2 d) f))
        ∗ ((Ctx a b K d (later ps) ∗ lanewise (fun l => fly d (l, true, 0)) ∗ lanewise (fun l => accAt d (blkSet 3 l.1 l.2 d) (Contents.acc a b 3 d))
            ∗ lanewise (fun l => done d (l, false, 2)) ∗ lanewise (left a b d 2)) -∗ run d k Q))
      ⊢ run d (each lanes (fun l k => waitRs d 2 l.1 l.2 (accum d 2 l.1 l.2 (relu d l.1 l.2 (sendAg d 0 l.1 l.2 k)))) k) Q := by
  have w := wp_lanes d (fun l k => waitRs d 2 l.1 l.2 (accum d 2 l.1 l.2 (relu d l.1 l.2 (sendAg d 0 l.1 l.2 k))))
    (fun xs => Ctx a b K d ((xs.map fun l => ((l, true, 0) : Job)) ++ later ps))
    (fun l => iprop((reducing a b d 2 l ∗ pend d (l, true, 0)) ∗ ∃ f, outAt d (blkSet 3 l.1 l.2 d) f))
    (fun l => iprop(fly d (l, true, 0) ∗ accAt d (blkSet 3 l.1 l.2 d) (Contents.acc a b 3 d) ∗ done d (l, false, 2) ∗ left a b d 2 l)) Q
    (fun l xs k => wp_turn a b K d l _ (ahead h (l :: xs)) k Q) k
  simp only [lanewise, bigSep_sep'] at w
  iintro ⟨HC, Hr, Hp, Ho, Hk⟩
  iapply w
  isplitl [HC]; · iexact HC
  isplitl [Hr Hp Ho]
  · isplitl [Hr Hp]
    · isplitl [Hr]; · iexact Hr
      iexact Hp
    iexact Ho
  iexact Hk

/-- A gathering step over every lane. -/
theorem loop_gather (d : Dev nD) (s s' : Fin 3) (hs : s.val + 1 = s'.val) (ps : List (Bool × Fin 3)) (h : ∀ q ∈ (true, s') :: ps, rank (true, s) < rank q)
    (k : PR F) (Q : PUnit → sProp 𝕄) :
    iprop(Ctx a b K d (later ((true, s') :: ps)) ∗ lanewise (fun l => fly d (l, true, s)) ∗ lanewise (fun l => pend d (l, true, s'))
        ∗ ((Ctx a b K d (later ps) ∗ lanewise (fun l => fly d (l, true, s')) ∗ lanewise (fun l => done d (l, true, s))) -∗ run d k Q))
      ⊢ run d (each lanes (fun l k => waitAg d s l.1 l.2 (sendAg d s' l.1 l.2 k)) k) Q := by
  have w := wp_lanes d (fun l k => waitAg d s l.1 l.2 (sendAg d s' l.1 l.2 k))
    (fun xs => Ctx a b K d ((xs.map fun l => ((l, true, s') : Job)) ++ later ps))
    (fun l => iprop(fly d (l, true, s) ∗ pend d (l, true, s'))) (fun l => iprop(fly d (l, true, s') ∗ done d (l, true, s))) Q
    (fun l xs k => wp_gather a b K d s s' hs l _ (ahead h (l :: xs)) k Q) k
  simp only [lanewise, bigSep_sep'] at w
  iintro ⟨HC, Hf, Hp, Hk⟩
  iapply w
  isplitl [HC]; · iexact HC
  isplitl [Hf Hp]
  · isplitl [Hf]; · iexact Hf
    iexact Hp
  iexact Hk

/-- The last waits. -/
theorem loop_last (d : Dev nD) (k : PR F) (Q : PUnit → sProp 𝕄) :
    iprop(Ctx a b K d [] ∗ lanewise (fun l => fly d (l, true, 2))
        ∗ ((Ctx a b K d [] ∗ lanewise (fun l => done d (l, true, 2)) ∗ lanewise (fun l => outAt d (blkSet 0 l.1 l.2 d) (Contents.out a b))) -∗ run d k Q))
      ⊢ run d (each lanes (fun l k => waitAg d 2 l.1 l.2 k) k) Q := by
  have w := wp_lanes d (fun l k => waitAg d 2 l.1 l.2 k) (fun _ => Ctx a b K d []) (fun l => fly d (l, true, 2))
    (fun l => iprop(done d (l, true, 2) ∗ outAt d (blkSet 0 l.1 l.2 d) (Contents.out a b))) Q (fun l xs k => wp_last a b K d l k Q) k
  simp only [lanewise, bigSep_sep'] at w
  exact w

end Cert.KernelIdeal.Protocol
-- ==== Proof.Body.lean ====
module

public import proofs.«01_k».proof.Proof.Loops

/-!
# The body of one device

From what a device starts with to what it ends with.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .bf16) (b : Dev nD → Vec F S768x1536 .bf16) (K : Name → ℕ)

/-- The device's block of `B`. -/
def bAt (d : Dev nD) : sProp 𝕄 := ((d : Thread nD τ).loc cc0_stg1_0) ↦{fullShare} (b d)

/-- What a device owes at the start: its jobs, and one signal to each partner. -/
def debt (d : Dev nD) : CellTallies nD τ sig Unit :=
  owed d jobs + tallyAt (barCell (partner 2 d)) () 1 + tallyAt (barCell (partner 1 d)) () 1 + tallyAt (barCell (partner 0 d)) () 1

/-- What a device has for the barrier: its position and credit at its own cell, the right to signal each partner's. -/
def greeting (d : Dev nD) : sProp 𝕄 :=
  iprop(atPos ER (barCell d) 0 ∅ 0 ∗ cred (tallyAt (barCell d) () 3)
    ∗ dutyTok ER (barCell (partner 0 d)) 0 0 ∗ dutyTok ER (barCell (partner 1 d)) 0 1 ∗ dutyTok ER (barCell (partner 2 d)) 0 2)

/-- Three signals to the partners, each handing over the places that partner writes; a wait for all three, which brings the partners'. -/
theorem wp_greet (d : Dev nD) (W : Waits sig Unit) (k : PR F) (Q : PUnit → sProp 𝕄) :
    iprop(records a b K ∗ levAts L lv ∗ owes (d : Thread nD τ) (debt d) W ∗ greeting d ∗ (bigSep Finset.univ fun k : Fin 3 => barPay (partner k d) k)
        ∗ ((Ctx a b K d jobs ∗ atPos ER (barCell d) 1 ∅ 0 ∗ bigSep Finset.univ fun k : Fin 3 => barPay d k) -∗ run d k Q))
      ⊢ run d (.op (.semSignal (Dev.tc (partner 0 d)) (sig.barrier 0 rfl) 1) fun _ => .op (.semSignal (Dev.tc (partner 1 d)) (sig.barrier 0 rfl) 1) fun _ =>
          .op (.semSignal (Dev.tc (partner 2 d)) (sig.barrier 0 rfl) 1) fun _ => .op (.semWait (sig.barrier 0 rfl) 3) fun _ => k) Q := by
  unfold greeting debt
  rw [sep_fin3 fun k : Fin 3 => barPay (F := F) (partner k d) k]
  iintro ⟨#HR, #Hlev, HO, ⟨Hat, Hc, Ht0, Ht1, Ht2⟩, ⟨Hp0, Hp1, Hp2⟩, Hk⟩
  iapply (Rounds.wp_signal 𝒱₀ ER (Rd a b) (d : Thread nD τ) none (dst := (partner 0 d : Thread nD τ)) (κ := K (partner 0 d, none))
      (d := 0) (by rw [duties_bar]; exact Finset.mem_univ _) (amount_bar a b (partner 0 d) 0) ()
      (owed d jobs + tallyAt (barCell (partner 2 d)) () 1 + tallyAt (barCell (partner 1 d)) () 1) rfl) $$ [HO Ht0 Hp0]
  · isplitr; · iapply (inv_at a b K (partner 0 d, none)); iexact HR
    isplitl [HO]; · iexact HO
    isplitl [Ht0]; · iexact Ht0
    isplitl [Hp0]; · iapply (Entails.of_eq (payload_bar a b (partner 0 d) 0).symm); iexact Hp0
    iapply (reached_at a b K (partner 0 d, none)); iexact HR
  iintro HO
  iapply (Rounds.wp_signal 𝒱₀ ER (Rd a b) (d : Thread nD τ) none (dst := (partner 1 d : Thread nD τ)) (κ := K (partner 1 d, none))
      (d := 1) (by rw [duties_bar]; exact Finset.mem_univ _) (amount_bar a b (partner 1 d) 1) ()
      (owed d jobs + tallyAt (barCell (partner 2 d)) () 1) rfl) $$ [HO Ht1 Hp1]
  · isplitr; · iapply (inv_at a b K (partner 1 d, none)); iexact HR
    isplitl [HO]; · iexact HO
    isplitl [Ht1]; · iexact Ht1
    isplitl [Hp1]; · iapply (Entails.of_eq (payload_bar a b (partner 1 d) 1).symm); iexact Hp1
    iapply (reached_at a b K (partner 1 d, none)); iexact HR
  iintro HO
  iapply (Rounds.wp_signal 𝒱₀ ER (Rd a b) (d : Thread nD τ) none (dst := (partner 2 d : Thread nD τ)) (κ := K (partner 2 d, none))
      (d := 2) (by rw [duties_bar]; exact Finset.mem_univ _) (amount_bar a b (partner 2 d) 2) ()
      (owed d jobs) rfl) $$ [HO Ht2 Hp2]
  · isplitr; · iapply (inv_at a b K (partner 2 d, none)); iexact HR
    isplitl [HO]; · iexact HO
    isplitl [Ht2]; · iexact Ht2
    isplitl [Hp2]; · iapply (Entails.of_eq (payload_bar a b (partner 2 d) 2).symm); iexact Hp2
    iapply (reached_at a b K (partner 2 d, none)); iexact HR
  iintro HO
  iapply (Rounds.wp_wait_rest_token 𝒱₀ ER (Rd a b) (d : Thread nD τ) none (κ := K (d, none))
      (wpE_semWait_eq 𝒱₀ (d : Thread nD τ) none Set.univ) (Set.mem_univ _) () (O := owed d jobs) (W := W) (R := 0) (m := 0) (T := ∅)
      (by exact (Nat.zero_add 3).trans (expect_bar a b d).symm)) $$ [Hc HO Hat]
  · isplitr; · iapply (inv_at a b K (d, none)); iexact HR
    isplitl [Hc]; · iexact Hc
    isplitl [HO]; · iexact HO
    isplitr; · iapply (mayWait d (.reg barS) jobs 1 (Nat.le_refl 1) fun j _ => by omega); iexact Hlev
    iexact Hat
  iintro ⟨HO, Hat, -, Hpay⟩
  ihave Hp := (show bigSep ((Rd a b).duties ((d : Thread nD τ), .reg (sig.barrier 0 rfl)) 0 \ ∅) (fun k => (Rd a b).payload ((d : Thread nD τ), .reg (sig.barrier 0 rfl)) 0 k) ⊢ _ from Entails.of_eq (rest_bar a b d)) $$ Hpay
  iapply Hk
  isplitl [HO]
  · unfold Ctx
    isplitr; · iexact HR
    isplitr; · iexact Hlev
    iexists _; iexact HO
  isplitl [Hat]; · iexact Hat
  iexact Hp

/-- The places a device's jobs land in, with the jobs not yet sent. -/
theorem pend_all (d : Dev nD) :
    (iprop((bigSep Finset.univ fun j : Job => tok d j)
        ∗ ((bigSep Finset.univ fun l : Lane => bigSep Finset.univ fun s : Fin 3 => hole (pal (l, false, s) d) (l, false, s))
          ∗ bigSep Finset.univ fun l : Lane => bigSep Finset.univ fun s : Fin 3 => hole (pal (l, true, s) d) (l, true, s))) : sProp 𝕄)
      ⊢ bigSep Finset.univ fun j : Job => pend d j := by
  have e : (bigSep Finset.univ fun j : Job => pend (F := F) d j)
      = iprop((bigSep Finset.univ fun j : Job => tok d j) ∗ bigSep Finset.univ fun j : Job => hole (pal j d) j) := by
    unfold pend; rw [bigSep_sep']
  have e2 (Ψ : Lane → Fin 3 → sProp 𝕄) : (bigSep Finset.univ fun l : Lane => bigSep Finset.univ fun s : Fin 3 => Ψ l s)
      = iprop((bigSep Finset.univ fun l : Lane => Ψ l 0) ∗ (bigSep Finset.univ fun l : Lane => Ψ l 1) ∗ bigSep Finset.univ fun l : Lane => Ψ l 2) := by
    rw [bigSep_congr fun l _ => sep_fin3 (Ψ l), bigSep_sep', bigSep_sep']
  rw [e, by_step (F := F) fun j => hole (pal j d) j, e2 fun l s => hole (pal (l, false, s) d) (l, false, s), e2 fun l s => hole (pal (l, true, s) d) (l, true, s)]
  iintro ⟨HT, ⟨⟨H0, H1, H2⟩, H3⟩⟩
  isplitl [HT]; · iexact HT
  isplitl [H0]; · iexact H0
  isplitl [H1]; · iexact H1
  isplitl [H2]; · iexact H2
  iexact H3

/-- What a device ends with besides its blocks: its scratch buffers, and every one of its semaphores at zero. -/
def finish (d : Dev nD) : sProp 𝕄 :=
  iprop(((∃ f, accAt d Finset.univ f) ∗ ∃ f, recvAt d Finset.univ f) ∗ (bigSep Finset.univ fun x : Slot => semVal (slotCell d x) 0) ∗ semVal (barCell d) 0)

/-- The blocks in flight and the blocks kept after the first two loops. -/
theorem reducing_start (d : Dev nD) :
    iprop(lanewise (fun l => fly d (l, false, 0)) ∗ lanewise (fun l => accAt d (blkSet 1 l.1 l.2 d) (Contents.acc a b 0 d))) ⊢ lanewise (reducing a b d 0) := by
  unfold lanewise
  rw [← bigSep_sep']
  exact Entails.of_eq (bigSep_congr fun l _ => rfl)

/-- The loops, from every job pending to every job done. -/
theorem wp_main (d : Dev nD) (Q : PUnit → sProp 𝕄) :
    iprop(Ctx a b K d jobs ∗ aAt a d ∗ (∃ f, accAt d Finset.univ f) ∗ (bigSep Finset.univ fun j : Job => pend d j)
        ∗ lanewise (fun l => iprop(∃ f, outAt d (blkSet 3 l.1 l.2 d) f))
        ∗ ((Ctx a b K d [] ∗ aAt a d ∗ ((∃ f, accAt d Finset.univ f) ∗ ∃ f, recvAt d Finset.univ f) ∗ (bigSep Finset.univ fun j : Job => done d j)
            ∗ outAt d Finset.univ (Contents.out a b)) -∗ run d (.ret ⟨⟩) Q))
      ⊢ run d (Steps.main d (b d)) Q := by
  rw [by_step (F := F) fun j => pend d j, by_step (F := F) fun j => done d j]
  iintro ⟨HC, Ha, Hacc, ⟨Hp0, Hp1, Hp2, Hp3, Hp4, Hp5⟩, Ho, Hk⟩
  ihave Hh := (acc_cut d) $$ Hacc
  icases Hh with ⟨Hh0, Hh1⟩
  unfold Steps.main jobs
  iapply (loop_open a b K d (later [(false, 1), (false, 2), (true, 0), (true, 1), (true, 2)]))
  isplitl [HC]; · iexact HC
  isplitl [Ha]; · iexact Ha
  isplitl [Hh0]; · iexact Hh0
  isplitl [Hp0]; · iexact Hp0
  iintro ⟨HC, Ha, Hf⟩
  iapply (loop_keep a b d)
  isplitl [Ha]; · iexact Ha
  isplitl [Hh1]; · iexact Hh1
  iintro ⟨Ha, Hs⟩
  iapply (loop_reduce a b K d 0 1 rfl [(false, 2), (true, 0), (true, 1), (true, 2)] (by decide))
  isplitl [HC]; · iexact HC
  isplitl [Hf Hs]
  · iapply (reducing_start a b d)
    isplitl [Hf]; · iexact Hf
    iexact Hs
  isplitl [Hp1]; · iexact Hp1
  iintro ⟨HC, Hr, Hd0, Hl0⟩
  iapply (loop_reduce a b K d 1 2 rfl [(true, 0), (true, 1), (true, 2)] (by decide))
  isplitl [HC]; · iexact HC
  isplitl [Hr]; · iexact Hr
  isplitl [Hp2]; · iexact Hp2
  iintro ⟨HC, Hr, Hd1, Hl1⟩
  iapply (loop_turn a b K d [(true, 1), (true, 2)] (by decide))
  isplitl [HC]; · iexact HC
  isplitl [Hr]; · iexact Hr
  isplitl [Hp3]; · iexact Hp3
  isplitl [Ho]; · iexact Ho
  iintro ⟨HC, Hf, Hs, Hd2, Hl2⟩
  iapply (loop_gather a b K d 0 1 rfl [(true, 2)] (by decide))
  isplitl [HC]; · iexact HC
  isplitl [Hf]; · iexact Hf
  isplitl [Hp4]; · iexact Hp4
  iintro ⟨HC, Hf, Hd3⟩
  iapply (loop_gather a b K d 1 2 rfl [] (by decide))
  isplitl [HC]; · iexact HC
  isplitl [Hf]; · iexact Hf
  isplitl [Hp5]; · iexact Hp5
  iintro ⟨HC, Hf, Hd4⟩
  iapply (loop_last a b K d)
  isplitl [HC]; · iexact HC
  isplitl [Hf]; · iexact Hf
  iintro ⟨HC, Hd5, Ho⟩
  iapply Hk
  isplitl [HC]; · iexact HC
  isplitl [Ha]; · iexact Ha
  isplitl [Hl0 Hl1 Hl2 Hs]
  · iapply (scratch_whole a b d)
    isplitl [Hl0]; · iexact Hl0
    isplitl [Hl1]; · iexact Hl1
    isplitl [Hl2]; · iexact Hl2
    iexact Hs
  isplitl [Hd0 Hd1 Hd2 Hd3 Hd4 Hd5]
  · isplitl [Hd0]; · iexact Hd0
    isplitl [Hd1]; · iexact Hd1
    isplitl [Hd2]; · iexact Hd2
    isplitl [Hd3]; · iexact Hd3
    isplitl [Hd4]; · iexact Hd4
    iexact Hd5
  rw [out_lanes]
  iexact Ho

theorem load_b (f : (cc0_stg1_0 : Ref sig .tc).ty.Contents (Elt F)) :
    (bM : Memref sig .tc .vmem S768x1536 .bf16).view.readAt (Elt F) (Rect.unit (s := S768x1536) ![0, 0] S768x1536.size inb_S768x1536_S768x1536_0_0).toLoadRect f = f :=
  Memref.readAt_unit_zero (Elt F) cc0_stg1_0 (by decide) _ f

/-- The whole body of device `d`. -/
theorem wp_body (d : Dev nD) (W : Waits sig Unit) (Q : PUnit → sProp 𝕄) :
    iprop(records a b K ∗ levAts L lv ∗ owes (d : Thread nD τ) (debt d) W ∗ greeting d ∗ (bigSep Finset.univ fun j : Job => tok d j)
        ∗ (∃ f, accAt d Finset.univ f) ∗ (∃ f, recvAt d Finset.univ f) ∗ (∃ f, outAt d Finset.univ f) ∗ aAt a d ∗ bAt b d
        ∗ ((finish d ∗ (∃ W, owes (d : Thread nD τ) 0 W) ∗ aAt a d ∗ bAt b d ∗ outAt d Finset.univ (Contents.out a b)) -∗ Q ⟨⟩))
      ⊢ run d Steps.body Q := by
  unfold Steps.body run
  rw [wp_deviceId]
  simp only [dev1_eq, dev2_eq, dev3_eq]
  iintro ⟨#HR, #Hlev, HO, Hg, HT, Hacc, Hrec, Hout, Ha, Hb, Hk⟩
  ihave Hv := (recv_cut d) $$ Hrec
  ihave Ho := (out_cut d) $$ Hout
  icases Ho with ⟨Ho, Hw⟩
  ihave Hp := (give d) $$ [Hv Hw]
  · isplitl [Hv]; · iexact Hv
    iexact Hw
  iapply (wp_greet a b K d W)
  isplitr; · iexact HR
  isplitr; · iexact Hlev
  isplitl [HO]; · iexact HO
  isplitl [Hg]; · iexact Hg
  isplitl [Hp]; · iexact Hp
  iintro ⟨HC, Hat, Hp⟩
  ihave Hp := (take d) $$ Hp
  ihave Hp := (pend_all d) $$ [HT Hp]
  · isplitl [HT]; · iexact HT
    iexact Hp
  unfold bAt
  iapply (wp_load 𝒱₀ (d : Thread nD τ) none Set.univ (m := bM) (Finset.subset_univ _)) $$ Hb; iintro Hb
  rw [load_b]
  iapply (wp_main a b K d)
  isplitl [HC]; · iexact HC
  isplitl [Ha]; · iexact Ha
  isplitl [Hacc]; · iexact Hacc
  isplitl [Hp]; · iexact Hp
  isplitl [Ho]; · iexact Ho
  iintro ⟨HC, Ha, Hs, Hd, Ho⟩
  unfold Ctx
  icases HC with ⟨-, -, %W', HO⟩
  imod (close_jobs a b K d) $$ [Hd] with Hz
  · isplitr; · iexact HR
    iexact Hd
  imod (Rounds.cell_close ER (Rd a b) (Set.mem_univ (K (d, none))) (fun h => h) (R := 0 + 1) (duties_later a b (barCell d))) $$ [Hat] with Hzb
  · isplitr; · iapply (inv_at a b K (d, none)); iexact HR
    iexact Hat
  rw [wp_ret]; imodintro
  iapply Hk
  unfold finish
  isplitl [Hs Hz Hzb]
  · isplitl [Hs]; · iexact Hs
    isplitl [Hz]; · iexact Hz
    iexact Hzb
  isplitl [HO]; · iexists W'; iexact HO
  isplitl [Ha]; · iexact Ha
  isplitl [Hb]; · iexact Hb
  iexact Ho

end Cert.KernelIdeal.Protocol
-- ==== Proof.Ghost.lean ====
module

public import proofs.«01_k».proof.Proof.Body

/-!
# The ghost state at launch

The protocol's cells and duty tokens minted, every cell's invariant allocated, the tokens dealt to the devices that pay with them, and
the launch credit.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

theorem bar_ne_slot (d d' : Dev nD) (x : Slot) : barCell d ≠ slotCell d' x := fun h => by cases congrArg Prod.snd h

theorem cell_inj : Function.Injective cell := by
  rintro ⟨d, _ | x⟩ ⟨d', _ | x'⟩ h
  · have : d = d' := congrArg (fun g : GSem nD τ sig => g.1.1) h
    rw [this]
  · exact absurd h (bar_ne_slot d d' x')
  · exact absurd h.symm (bar_ne_slot d' d x)
  · obtain ⟨rfl, rfl⟩ := slotCell_inj h; rfl

theorem tokOf_inj : Function.Injective fun p : Name × Fin 3 => ((cell p.1, 0, p.2) : GSem nD τ sig × ℕ × Fin 3) := by
  rintro ⟨n, k⟩ ⟨n', k'⟩ h
  have h1 : n = n' := cell_inj (congrArg Prod.fst h)
  have h2 : k = k' := congrArg (fun x : GSem nD τ sig × ℕ × Fin 3 => x.2.2) h
  rw [h1, h2]

/-- The protocol's cells. -/
def cells : Finset (GSem nD τ sig) := Finset.univ.map ⟨cell, cell_inj⟩
/-- A token for every duty of every cell. -/
def tokens : Finset (GSem nD τ sig × ℕ × Fin 3) := Finset.univ.map ⟨_, tokOf_inj⟩

/-- A family over a device's cells: its barrier's and its jobs'. -/
theorem sep_option (Φ : Option Slot → sProp 𝕄) :
    bigSep Finset.univ Φ = iprop(Φ none ∗ bigSep Finset.univ fun x : Slot => Φ (some x)) := by
  have e : (Finset.univ : Finset (Option Slot)) = insert none (Finset.univ.map Function.Embedding.some) := by
    ext o; cases o <;> simp
  rw [e, sep_insert (by simp), bigSep_map]; rfl

/-- A family over the job cells: the senders' and the receivers'. -/
theorem sep_slot (Φ : Slot → sProp 𝕄) :
    bigSep Finset.univ Φ = iprop((bigSep Finset.univ fun j : Job => Φ (false, j)) ∗ bigSep Finset.univ fun j : Job => Φ (true, j)) := by
  rw [BI.bigSep_univ_prod]
  exact bigSep_univ_eq_bigSepL [false, true] (by decide) (by decide) _

/-- The tokens of a device's own cells. -/
def minted (d : Dev nD) : sProp 𝕄 :=
  iprop((bigSep Finset.univ fun k : Fin 3 => dutyTok ER (barCell d) 0 k)
    ∗ (bigSep Finset.univ fun j : Job => dutyTok ER (sendCell d j) 0 0) ∗ bigSep Finset.univ fun j : Job => dutyTok ER (recvCell d j) 0 0)
/-- The tokens of the duties a device pays. -/
def dealt (d : Dev nD) : sProp 𝕄 :=
  iprop((bigSep Finset.univ fun k : Fin 3 => dutyTok ER (barCell (partner k d)) 0 k)
    ∗ (bigSep Finset.univ fun j : Job => dutyTok ER (sendCell d j) 0 0) ∗ bigSep Finset.univ fun j : Job => dutyTok ER (recvCell (pal j d) j) 0 0)

/-- Every token of a device's cells, among them those minted. -/
theorem minted_of (d : Dev nD) :
    (bigSep Finset.univ fun o : Option Slot => bigSep Finset.univ fun k : Fin 3 => (dutyTok ER (cell (d, o)) 0 k : sProp 𝕄)) ⊢ minted d := by
  have h (x : Slot) : (bigSep Finset.univ fun k : Fin 3 => (dutyTok ER (cell (d, some x)) 0 k : sProp 𝕄)) ⊢ dutyTok ER (slotCell d x) 0 0 :=
    bigSep_elim (Finset.mem_univ (0 : Fin 3))
  have hs : (bigSep Finset.univ fun x : Slot => bigSep Finset.univ fun k : Fin 3 => (dutyTok ER (cell (d, some x)) 0 k : sProp 𝕄))
      ⊢ bigSep Finset.univ fun x : Slot => dutyTok ER (slotCell d x) 0 0 := sep_mono' fun x _ => h x
  rw [sep_option]
  unfold minted
  rw [← sep_slot fun x => dutyTok ER (slotCell d x) 0 0]
  iintro ⟨H1, H2⟩
  isplitl [H1]; · iexact H1
  iapply hs; iexact H2

def flip (k : Fin 3) : Dev nD ≃ Dev nD := ⟨partner k, partner k, partner_partner k, partner_partner k⟩
def across (j : Job) : Dev nD ≃ Dev nD := ⟨pal j, pal j, pal_pal j, pal_pal j⟩

/-- The tokens dealt: each barrier duty to the partner that pays it, each receiving duty to the job's sender. -/
theorem deal : (bigSep Finset.univ fun d : Dev nD => (minted d : sProp 𝕄)) ⊢ bigSep Finset.univ fun d : Dev nD => dealt d := by
  have e1 : (bigSep Finset.univ fun d : Dev nD => bigSep Finset.univ fun k : Fin 3 => (dutyTok ER (barCell d) 0 k : sProp 𝕄))
      = bigSep Finset.univ fun d : Dev nD => bigSep Finset.univ fun k : Fin 3 => dutyTok ER (barCell (partner k d)) 0 k := by
    rw [BI.bigSep_univ_comm, BI.bigSep_univ_comm fun (d : Dev nD) (k : Fin 3) => (dutyTok ER (barCell (partner k d)) 0 k : sProp 𝕄)]
    exact bigSep_congr fun k _ => bigSep_univ_equiv (flip k) fun d => dutyTok ER (barCell d) 0 k
  have e2 : (bigSep Finset.univ fun d : Dev nD => bigSep Finset.univ fun j : Job => (dutyTok ER (recvCell d j) 0 0 : sProp 𝕄))
      = bigSep Finset.univ fun d : Dev nD => bigSep Finset.univ fun j : Job => dutyTok ER (recvCell (pal j d) j) 0 0 := by
    rw [BI.bigSep_univ_comm, BI.bigSep_univ_comm fun (d : Dev nD) (j : Job) => (dutyTok ER (recvCell (pal j d) j) 0 0 : sProp 𝕄)]
    exact bigSep_congr fun j _ => bigSep_univ_equiv (across j) fun d => dutyTok ER (recvCell d j) 0 0
  unfold minted dealt
  rw [bigSep_sep', bigSep_sep', bigSep_sep', bigSep_sep', e1, e2]

section Alloc

variable (a : Dev nD → Vec F S1536x768 .bf16) (b : Dev nD → Vec F S768x1536 .bf16)

/-- What the launch deals device `d`: its cells' round states, its positions, its cells' tokens. -/
def share₀ (d : Dev nD) : sProp 𝕄 :=
  iprop((bigSep Finset.univ fun o : Option Slot => roundState ER (Rd a b) (cell (d, o)) 0)
    ∗ (bigSep Finset.univ fun o : Option Slot => iprop(atPos ER (cell (d, o)) 0 ∅ 0 ∗ reached ER (cell (d, o)) 0)) ∗ minted d)

/-- What a device's own cells and tokens come to. -/
def keys (d : Dev nD) : sProp 𝕄 := iprop((bigSep Finset.univ fun o : Option Slot => atPos ER (cell (d, o)) 0 ∅ 0) ∗ dealt d)
/-- What device `d` starts from: the records, at some names, and its keys. -/
def share (d : Dev nD) : sProp 𝕄 := iprop((∃ K, records a b K) ∗ keys d)

theorem fund_cells : BI.own (ER (initOf cells tokens)) ⊢ (|==> bigSep Finset.univ (share₀ a b) : sProp 𝕄) := by
  have hX (Φ : GSem nD τ sig → sProp 𝕄) : bigSep cells Φ = bigSep Finset.univ fun d : Dev nD => bigSep Finset.univ fun o : Option Slot => Φ (cell (d, o)) := by
    unfold cells; rw [bigSep_map]; exact BI.bigSep_univ_prod fun n : Name => Φ (cell n)
  have hT : bigSep tokens (fun x => (dutyTok ER x.1 x.2.1 x.2.2 : sProp 𝕄)) ⊢ bigSep Finset.univ fun d : Dev nD => minted d := by
    unfold tokens; rw [bigSep_map, BI.bigSep_univ_prod, BI.bigSep_univ_prod]
    exact sep_mono' fun d _ => minted_of d
  iintro HX
  imod (Rounds.fund ER (Rd a b) cells tokens) $$ HX with ⟨Hst, Hr, Hat, Htok⟩
  imodintro
  ihave Hst := (Entails.of_eq (hX fun g => roundState ER (Rd a b) g 0)) $$ Hst
  ihave Hat := (Entails.of_eq (hX fun g => atPos ER g 0 ∅ 0)) $$ Hat
  ihave Hr := (Entails.of_eq (hX fun g => reached ER g 0)) $$ Hr
  ihave Htok := hT $$ Htok
  unfold share₀; simp only [bigSep_sep']
  isplitl [Hst]; · iexact Hst
  isplitl [Hat Hr]
  · isplitl [Hat] <;> iassumption
  iexact Htok

/-- The kernel's own semaphores, job by job; -/
abbrev osem (x : Slot) : SemLoc sig := .dma (slotSem x)

theorem ownSemFacts : Pipeline.OwnSemFacts cfg0.spec osem where
  isScoped := by decide +kernel
  inj x y h := slotSem_inj (SemLoc.dma.inj h)
  disj x w s h := by
    have h1 := slotSem_ge x
    have h2 : ∀ w s, ((cfg0.spec w).sem s).val < 3 := by decide
    rw [SemLoc.dma.inj h] at h1
    exact absurd (h2 w s) (by omega)

theorem unscopedSems0_eq (d : Dev nD) : (unscopedSems0 d : sProp 𝕄) = semVal (barCell d) 0 := by
  unfold unscopedSems0; rw [bigSep_eq_bigSepL_of_eq [SemLoc.reg barS] (by decide) (by decide)]; rfl

abbrev ownSems (d : Dev nD) : sProp 𝕄 := Pipeline.ownSems0 (Ix := Unit) (Name := ℕ) (U := UU) (Lvl := ℕ) (Val := Elt F) (τ := τ) osem d

theorem sems_eq (d : Dev nD) :
    iprop(ownSems d ∗ unscopedSems0 d) ⊢ (bigSep Finset.univ fun o : Option Slot => semVal (cell (d, o)) 0 : sProp 𝕄) := by
  rw [unscopedSems0_eq, sep_option]
  unfold ownSems Pipeline.ownSems0
  iintro ⟨H1, H2⟩
  isplitl [H2]; · iexact H2
  iexact H1

theorem alloc_one (d : Dev nD) :
    iprop(ownSems d ∗ unscopedSems0 d ∗ share₀ a b d)
      ⊢ |={Set.univ}=> iprop((bigSep Finset.univ fun o : Option Slot => iprop(∃ κ : ℕ, cellInv ER (Rd a b) κ (cell (d, o))))
          ∗ (bigSep Finset.univ fun o : Option Slot => iprop(atPos ER (cell (d, o)) 0 ∅ 0 ∗ reached ER (cell (d, o)) 0)) ∗ minted d) := by
  have key : iprop((bigSep Finset.univ fun o : Option Slot => semVal (cell (d, o)) 0) ∗ bigSep Finset.univ fun o : Option Slot => roundState ER (Rd a b) (cell (d, o)) 0)
      ⊢ (|={Set.univ}=> bigSep Finset.univ fun o : Option Slot => iprop(∃ κ : ℕ, cellInv ER (Rd a b) κ (cell (d, o))) : sProp 𝕄) := by
    rw [← bigSep_sep']
    exact (sep_mono' fun o _ => (Rounds.body_intro ER (Rd a b) (cell (d, o))).trans inv_alloc).trans (bigSep_fupd _ _)
  unfold share₀
  iintro ⟨Ho, Hu, Hst, Hat, Htok⟩
  ihave Hv := (sems_eq (F := F) d) $$ [Ho Hu]
  · isplitl [Ho] <;> iassumption
  imod key $$ [Hv Hst] with Hinv
  · isplitl [Hv] <;> iassumption
  imodintro
  isplitl [Hinv]; · iexact Hinv
  isplitl [Hat]; · iexact Hat
  iexact Htok

theorem share_intro (K : Name → ℕ) (d : Dev nD) : iprop(records a b K ∗ keys d) ⊢ share a b d := by
  unfold share
  iintro ⟨HR, Hk⟩
  isplitl [HR]; · iexists K; iexact HR
  iexact Hk

theorem regroup :
    (bigSep Finset.univ fun d : Dev nD => iprop((bigSep Finset.univ fun o : Option Slot => iprop(∃ κ : ℕ, cellInv ER (Rd a b) κ (cell (d, o))))
          ∗ (bigSep Finset.univ fun o : Option Slot => iprop(atPos ER (cell (d, o)) 0 ∅ 0 ∗ reached ER (cell (d, o)) 0)) ∗ minted d) : sProp 𝕄)
      ⊢ bigSep Finset.univ (share a b) := by
  have ek : (bigSep Finset.univ fun d : Dev nD => (keys d : sProp 𝕄))
      = iprop((bigSep Finset.univ fun d : Dev nD => bigSep Finset.univ fun o : Option Slot => atPos ER (cell (d, o)) 0 ∅ 0) ∗ bigSep Finset.univ fun d => dealt d) := by
    unfold keys; rw [bigSep_sep']
  have fin (K : Name → ℕ) : iprop(records a b K ∗ bigSep Finset.univ fun d : Dev nD => keys d) ⊢ bigSep Finset.univ (share a b) :=
    with_persistent fun d _ => share_intro a b K d
  rw [bigSep_sep', bigSep_sep', ← BI.bigSep_univ_prod (fun n : Name => iprop(∃ κ : ℕ, cellInv ER (Rd a b) κ (cell n))),
    bigSep_congr (s := Finset.univ) (fun (d : Dev nD) _ => bigSep_sep' Finset.univ (fun o : Option Slot => (atPos ER (cell (d, o)) 0 ∅ 0 : sProp 𝕄)) (fun o => reached ER (cell (d, o)) 0)),
    bigSep_sep', ← BI.bigSep_univ_prod (fun n : Name => (reached ER (cell n) 0 : sProp 𝕄))]
  iintro ⟨HI, ⟨Hat, HR⟩, Htok⟩
  ihave HK := (BI.bigSep_exists_pi Finset.univ (fun (n : Name) (κ : ℕ) => (cellInv ER (Rd a b) κ (cell n) : sProp 𝕄))) $$ HI
  icases HK with ⟨%K, HI⟩
  ihave Hd := (deal (F := F)) $$ Htok
  ihave Hk := (Entails.of_eq ek.symm) $$ [Hat Hd]
  · isplitl [Hat] <;> iassumption
  iapply (fin K)
  isplitl [HI HR]
  · unfold records; isplitl [HI]; · iexact HI
    iexact HR
  iexact Hk

/-- Every device's cells set up at once. -/
theorem glob : (bigSep Finset.univ fun d => iprop(ownSems d ∗ unscopedSems0 d ∗ share₀ a b d) : sProp 𝕄) ⊢ |={Set.univ}=> bigSep Finset.univ (share a b) :=
  ((sep_mono' fun d _ => alloc_one a b d).trans (bigSep_fupd _ _)).trans (BI.fupd_mono (regroup a b))

end Alloc

/-! ## The launch credit -/

theorem jobs_nodup : jobs.Nodup := by decide +kernel
theorem mem_jobs : ∀ j, j ∈ jobs := by decide +kernel

theorem recvCell_eq {d d' : Dev nD} {j j' : Job} : recvCell d j = recvCell d' j' ↔ d = d' ∧ j = j' :=
  ⟨fun h => ⟨(slotCell_inj h).1, congrArg Prod.snd (slotCell_inj h).2⟩, fun ⟨h1, h2⟩ => by rw [h1, h2]⟩

theorem barCell_eq {d d' : Dev nD} : barCell d = barCell d' ↔ d = d' := ⟨fun h => congrArg (fun g : GSem nD τ sig => g.1.1) h, fun h => h ▸ rfl⟩

/-- Among the jobs a device owes, those raising one receiving cell. -/
theorem owed_recv (d c : Dev nD) (j : Job) (js : List Job) (hjs : js.Nodup) :
    owed d js (recvCell c j) () = if d = pal j c ∧ j ∈ js then amt j else 0 := by
  induction js with
  | nil => rw [if_neg fun h => List.not_mem_nil h.2]; rfl
  | cons j' js ih =>
    obtain ⟨hn, hjs⟩ := List.nodup_cons.mp hjs
    rw [owed, Pi.add_apply, Finsupp.add_apply, tallyAt_apply, ih hjs]
    by_cases h : j = j'
    · subst h
      by_cases hd : d = pal j c
      · subst hd
        rw [if_neg fun h => hn h.2, if_pos ⟨by rw [pal_pal], rfl⟩, if_pos ⟨rfl, List.mem_cons_self⟩, Nat.zero_add]
      · rw [if_neg fun h => hd h.1, if_neg fun h => hd (by rw [(recvCell_eq.mp h.1).1, pal_pal]), if_neg fun h => hd h.1]
    · rw [if_neg (c := recvCell c j = _ ∧ _) fun h' => h (recvCell_eq.mp h'.1).2, Nat.add_zero]
      exact if_congr (and_congr_right fun _ => ⟨List.mem_cons_of_mem _, fun h' => (List.mem_cons.mp h').resolve_left h⟩) rfl rfl

theorem owed_bar (d c : Dev nD) (js : List Job) : owed d js (barCell c) () = 0 := by
  by_contra h
  obtain ⟨j, -, e⟩ := owed_pos (Nat.pos_of_ne_zero h)
  exact bar_ne_slot c _ _ e

theorem tally_bar (d c : Dev nD) (k : Fin 3) : (tallyAt (barCell (partner k d)) () 1 : CellTallies nD τ sig Unit) (barCell c) () = if d = partner k c then 1 else 0 := by
  rw [tallyAt_apply]
  refine if_congr ⟨fun h => ?_, fun h => ⟨?_, rfl⟩⟩ rfl rfl
  · rw [barCell_eq.mp h.1, partner_partner]
  · rw [h, partner_partner]

theorem tally_bar_recv (d c : Dev nD) (j : Job) : (tallyAt (barCell d) () 1 : CellTallies nD τ sig Unit) (recvCell c j) () = 0 := by
  rw [tallyAt_ne_cell (fun h => bar_ne_slot _ _ _ h.symm)]; rfl

theorem debt_bar (d c : Dev nD) :
    debt d (barCell c) () = (if d = partner 2 c then 1 else 0) + (if d = partner 1 c then 1 else 0) + (if d = partner 0 c then 1 else 0) := by
  unfold debt
  simp only [Pi.add_apply, Finsupp.add_apply]
  rw [owed_bar, tally_bar, tally_bar, tally_bar, Nat.zero_add]

theorem debt_recv (d c : Dev nD) (j : Job) : debt d (recvCell c j) () = if d = pal j c then amt j else 0 := by
  unfold debt
  simp only [Pi.add_apply, Finsupp.add_apply]
  rw [tally_bar_recv, tally_bar_recv, tally_bar_recv, owed_recv d c j jobs jobs_nodup]
  exact if_congr (and_iff_left (mem_jobs j)) rfl rfl

theorem launch_bar (c : Dev nD) :
    tallyOn (barCell c) (launchCredit (Pipeline.owing debt) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => debt_bar d c, Finset.sum_add_distrib, Finset.sum_add_distrib,
    Finset.sum_ite_eq' Finset.univ (partner 2 c) fun _ => 1, Finset.sum_ite_eq' Finset.univ (partner 1 c) fun _ => 1,
    Finset.sum_ite_eq' Finset.univ (partner 0 c) fun _ => 1, if_pos (Finset.mem_univ _), if_pos (Finset.mem_univ _), if_pos (Finset.mem_univ _)]

theorem launch_recv (c : Dev nD) (j : Job) :
    tallyOn (recvCell c j) (launchCredit (Pipeline.owing debt) 0 (recvCell c j)) = (tallyAt (recvCell c j) () (amt j) : CellTallies nD τ sig Unit) := by
  unfold tallyAt; refine congrArg _ (Finsupp.ext fun u => ?_); cases u
  rw [Pipeline.launchCredit_owing, Finsupp.single_eq_same, Finset.sum_congr rfl fun d _ => debt_recv d c j,
    Finset.sum_ite_eq' Finset.univ (pal j c) fun _ => amt j, if_pos (Finset.mem_univ _)]

theorem recvSem_inj : Function.Injective fun j : Job => (SemLoc.dma (slotSem (true, j)) : SemLoc sig) :=
  fun j j' h => congrArg Prod.snd (slotSem_inj (SemLoc.dma.inj h))

/-- A device's launch credit: three units at its barrier cell, one copy's worth at each receiving cell. -/
theorem creds (c : Dev nD) :
    (Pipeline.launchCred debt c : sProp 𝕄) ⊢ iprop(cred (tallyAt (barCell c) () 3) ∗ bigSep Finset.univ fun j : Job => cred (tallyAt (recvCell c j) () (amt j))) := by
  have e : (bigSep Finset.univ fun j : Job => (cred (tallyAt (recvCell c j) () (amt j)) : sProp 𝕄))
      = bigSep (Finset.univ.map ⟨_, recvSem_inj⟩) fun sm : SemLoc sig =>
          cred (tallyOn ((c.tc : Thread nD τ), sm) (launchCredit (Pipeline.owing debt) 0 ((c.tc : Thread nD τ), sm))) := by
    rw [bigSep_map]
    exact bigSep_congr fun j _ => by rw [← launch_recv]; rfl
  unfold Pipeline.launchCred
  rw [bigSep_univ_at _ (SemLoc.reg barS), launch_bar, e]
  refine sep_mono_right (bigSep_subset fun sm hs => ?_)
  obtain ⟨j, -, rfl⟩ := Finset.mem_map.mp hs
  exact Finset.mem_erase.mpr ⟨(fun h => by cases h), Finset.mem_univ _⟩

/-- The keys and the credits together are the greeting and the jobs' tokens. -/
theorem keys_open (d : Dev nD) :
    (iprop(keys d ∗ cred (tallyAt (barCell d) () 3) ∗ bigSep Finset.univ fun j : Job => cred (tallyAt (recvCell d j) () (amt j))) : sProp 𝕄)
      ⊢ iprop(greeting d ∗ bigSep Finset.univ fun j : Job => tok d j) := by
  have e : (bigSep Finset.univ fun o : Option Slot => (atPos ER (cell (d, o)) 0 ∅ 0 : sProp 𝕄))
      = iprop(atPos ER (barCell d) 0 ∅ 0 ∗ (bigSep Finset.univ fun j : Job => atPos ER (sendCell d j) 0 ∅ 0) ∗ bigSep Finset.univ fun j : Job => atPos ER (recvCell d j) 0 ∅ 0) := by
    rw [sep_option, sep_slot]; rfl
  have et : (bigSep Finset.univ fun j : Job => (tok d j : sProp 𝕄))
      = iprop((bigSep Finset.univ fun j : Job => dutyTok ER (sendCell d j) 0 0) ∗ (bigSep Finset.univ fun j : Job => dutyTok ER (recvCell (pal j d) j) 0 0)
          ∗ (bigSep Finset.univ fun j : Job => atPos ER (sendCell d j) 0 ∅ 0) ∗ (bigSep Finset.univ fun j : Job => atPos ER (recvCell d j) 0 ∅ 0)
          ∗ bigSep Finset.univ fun j : Job => cred (tallyAt (recvCell d j) () (amt j))) := by
    unfold tok; rw [bigSep_sep', bigSep_sep', bigSep_sep', bigSep_sep']
  rw [et]
  unfold keys dealt greeting
  rw [e, sep_fin3]
  iintro ⟨⟨⟨HB, HS, HV⟩, ⟨T0, T1, T2⟩, TS, TV⟩, CB, CV⟩
  isplitl [HB T0 T1 T2 CB]
  · isplitl [HB]; · iexact HB
    isplitl [CB]; · iexact CB
    isplitl [T0]; · iexact T0
    isplitl [T1]; · iexact T1
    iexact T2
  isplitl [TS]; · iexact TS
  isplitl [TV]; · iexact TV
  isplitl [HS]; · iexact HS
  isplitl [HV]; · iexact HV
  iexact CV

end Cert.KernelIdeal.Protocol
-- ==== Proof.Launch.lean ====
module

public import proofs.«01_k».proof.Proof.Ghost
public import Idealize.ShloMosaic.Lib.Pipeline.CollectiveSegs

/-!
# The run

From any memory with zero counters every execution of the program on the eight devices terminates, with each device's result array at
`Contents.out` of the devices' two inputs.
-/

@[expose] public section

noncomputable section

namespace Cert.KernelIdeal.Protocol

open Cert.KernelIdeal Cert.KernelIdeal.Gen Cert.KernelIdeal.Steps Cert.KernelIdeal.Geom
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's block of each input, as the pipeline fetches it. -/
def aIn (d : Dev nD) : Vec F S1536x768 .bf16 := (win0_0.blk (0 : Fin 1)).view.read (Elt F) (m ((d : Thread nD τ).loc main_arg0))
def bIn (d : Dev nD) : Vec F S768x1536 .bf16 := (win0_1.blk (0 : Fin 1)).view.read (Elt F) (m ((d : Thread nD τ).loc main_arg1))
/-- What every device's result ends as. -/
def result : S1536x1536.Idx → F .bf16 := Contents.out (aIn m) (bIn m)

/-! ## The pipeline's proof data -/

theorem cfg0_N : cfg0.N = 1 := N_0
def t₀ : Fin cfg0.N := t0_0
theorem fin_N (t : Fin cfg0.N) : t = t₀ := fin_N0 t

/-- What the body starts from besides its buffers: the records, its keys and credits, the levels. -/
def start (d : Dev nD) : sProp 𝕄 :=
  iprop((∃ K, records (aIn m) (bIn m) K) ∗ (greeting d ∗ bigSep Finset.univ fun j : Job => tok d j) ∗ levAts L lv)
def Φ₀ (d : Dev nD) : sProp 𝕄 := iprop(start m d ∗ (∃ f, accAt d Finset.univ f) ∗ ∃ f, recvAt d Finset.univ f)

def dats (_ : Fin 1) (d : Dev nD) : Dat τ (Elt F) Unit ℕ UU ℕ cfg0 d where
  A w := (s₀ m ρ).mem ((cfg0.win w).arr.view.loc (d : Thread nD τ))
  after w _ := match w with
    | ⟨0, _⟩ => aIn m d
    | ⟨1, _⟩ => bIn m d
    | ⟨2, _⟩ => result m
  Φ t := match t with
    | ⟨0, _⟩ => Φ₀ m d
    | ⟨_ + 1, _⟩ => finish d
  q _ := fullShare
  owed t := match t with
    | ⟨0, _⟩ => debt d
    | ⟨_ + 1, _⟩ => 0

theorem sep_windows (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

/-- A staging buffer of device `d` holding `X`. -/
abbrev staged (d : Dev nD) (r : Ref sig .tc) (X : r.ty.Contents (Elt F)) : sProp 𝕄 :=
  iprop(∃ f : Buf (Elt F) (((d : Dev nD) : Thread nD τ).loc r), ⌜f = X⌝ ∗ (((d : Thread nD τ).loc r) ↦{fullShare} f))

theorem owns_whole (d : Dev nD) (r : Ref sig .tc) (X : r.ty.Contents (Elt F)) :
    (owns (Ix := Unit) (Name := ℕ) (U := UU) (Lvl := ℕ) (d : Thread nD τ) (Memref.whole r) fullShare X : sProp 𝕄) = staged d r X := by
  unfold owns; simp only [Memref.view_whole, View.read_whole, View.set_whole]

def bodyPre (d : Dev nD) : sProp 𝕄 :=
  iprop(Φ₀ m d ∗ (dats m ρ 0 d).owesAt () t₀.castSucc
    ∗ (∃ x, staged d cc0_stg0_0 ((dats m ρ 0 d).before (0 : Fin 3) t₀ x))
    ∗ (∃ x, staged d cc0_stg1_0 ((dats m ρ 0 d).before (1 : Fin 3) t₀ x))
    ∗ (∃ x, staged d cc0_stg2_0 ((dats m ρ 0 d).before (2 : Fin 3) t₀ x)))
def bodyPost (d : Dev nD) : sProp 𝕄 :=
  iprop(finish d ∗ (dats m ρ 0 d).owesAt () t₀.succ ∗ staged d cc0_stg0_0 (aIn m d) ∗ staged d cc0_stg1_0 (bIn m d) ∗ staged d cc0_stg2_0 (result m))

/-- The body from what the pipeline hands it to what the pipeline takes back. -/
theorem body_runs (d : Dev nD) : bodyPre m ρ d ⊢ run d Steps.body (fun _ => bodyPost m ρ d) := by
  unfold bodyPre Φ₀ start Dat.owesAt Pipeline.owesWithin
  iintro ⟨⟨⟨⟨%K, HR⟩, ⟨Hg, HT⟩, Hlev⟩, Hacc, Hrec⟩, ⟨%W, %hW, HO⟩, ⟨%x0, %g0, %h0, Ha⟩, ⟨%x1, %g1, %h1, Hb⟩, ⟨%x2, %g2, %h2, Ho⟩⟩
  have e0 : g0 = aIn m d := by rw [h0]; unfold Dat.before; rw [if_pos (fetch_0 t₀)]; rfl
  have e1 : g1 = bIn m d := by rw [h1]; unfold Dat.before; rw [if_pos (fetch_1 t₀)]; rfl
  subst e0; subst e1
  rw [show (dats m ρ 0 d).owed t₀.castSucc = debt d from rfl]
  iapply (wp_body (aIn m) (bIn m) K d W fun _ => bodyPost m ρ d)
  isplitl [HR]; · iexact HR
  isplitl [Hlev]; · iexact Hlev
  isplitl [HO]; · iexact HO
  isplitl [Hg]; · iexact Hg
  isplitl [HT]; · iexact HT
  isplitl [Hacc]; · iexact Hacc
  isplitl [Hrec]; · iexact Hrec
  isplitl [Ho]; · iexists g2; unfold outAt; iexact Ho
  isplitl [Ha]; · unfold aAt; iexact Ha
  isplitl [Hb]; · unfold bAt; iexact Hb
  unfold bodyPost Dat.owesAt Pipeline.owesWithin aAt bAt outAt
  rw [show (dats m ρ 0 d).owed t₀.succ = 0 from rfl]
  iintro ⟨Hf, ⟨%W', HO⟩, Ha, Hb, Ho⟩
  isplitl [Hf]; · iexact Hf
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 100000 in
theorem body_obligation (d : Dev nD) : BodyObligation (dats (F := F) m ρ 0 d) (defs₀ (F := F)) 𝒱₀ () Set.univ := fun t => by
  rw [fin_N t]
  rw [sep_windows, sep_windows]
  simp only [owns_whole]
  show bodyPre m ρ d ⊢ run d (cc0_body (F := F) aM (Memref.isWhole_whole _) bM (Memref.isWhole_whole _) oM (Memref.isWhole_whole _) cM (Memref.isWhole_whole _)
    rM (Memref.isWhole_whole _) cc0_scratch2 cc0_scratch3 cc0_scratch4 cc0_scratch5) (fun _ => bodyPost m ρ d)
  rw [body_eq]
  exact body_runs m ρ d

/-! ## The launch's side conditions -/

theorem share_eq (d : Dev nD) (w : Fin cfg0.W) : (dats m ρ 0 d).share w = fullShare := by unfold Dat.share; split <;> rfl

/-- What a device owes lies at receiving cells and at barrier cells. -/
theorem debt_pos {d : Dev nD} {g : GSem nD τ sig} {u : Unit} (h : 0 < debt d g u) : (∃ d' j, g = recvCell d' j) ∨ ∃ d', g = barCell d' := by
  unfold debt at h
  simp only [Pi.add_apply, Finsupp.add_apply, tallyAt_apply] at h
  by_contra hn
  rw [not_or, not_exists, not_exists] at hn
  rw [if_neg fun e => hn.2 _ e.1, if_neg fun e => hn.2 _ e.1, if_neg fun e => hn.2 _ e.1] at h
  obtain ⟨j, -, e⟩ := owed_pos (by simpa using h)
  exact hn.1 _ ⟨j, e⟩

/-- Waiting for a fetch or a write-back, below everything owed. -/
theorem mayWait_stage (d : Dev nD) (q : DmaSem sig) (hq : q.val < 3) (O : CellTallies nD τ sig Unit) (hO : O = debt d ∨ O = 0) :
    (levAts L lv : sProp 𝕄) ⊢ MayWait (d : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases debt_pos hg with ⟨d', j, rfl⟩ | ⟨d', rfl⟩ <;> exact Finset.mem_singleton_self _)
      (fun p hp => by
        rw [Finset.mem_singleton.mp hp]
        show (if q.val < 3 then 0 else slotLev (slotOf q)) ≤ 0
        rw [if_pos hq])
      (fun g u hg => by
        rcases debt_pos hg with ⟨d', j, rfl⟩ | ⟨d', rfl⟩
        · rw [lv_slot]; show 0 < 2 + rank j.2; omega
        · exact Nat.one_pos)
  · rw [MayWait_zero]; iintro -; iempintro

theorem start_intro (d : Dev nD) :
    iprop(Pipeline.unscopedRestP Pipeline.Prefetch.none cfg0.spec d (fun b => m ((d : Thread nD τ).loc b)) ∗ levAts L lv
        ∗ Pipeline.launchCred debt d ∗ prngReg d (ρ d) ∗ share (aIn m) (bIn m) d)
      ⊢ |={Set.univ}=> iprop(start m d ∗ emp) := by
  unfold share start
  iintro ⟨-, Hlev, Hcr, -, HR, HK⟩
  ihave Hc := (creds (F := F) d) $$ Hcr
  ihave Hk := (keys_open (F := F) d) $$ [HK Hc]
  · isplitl [HK]; · iexact HK
    iexact Hc
  imodintro
  isplitl
  · isplitl [HR]; · iexact HR
    isplitl [Hk]; · iexact Hk
    iexact Hlev
  · iempintro

theorem first_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, scopedRest0_eq]
  unfold Φ₀ accAt recvAt
  iintro ⟨Hs, -, H1, H2⟩
  isplitl [Hs]; · iexact Hs
  isplitl [H1]; · iexact H1
  iexact H2

theorem last_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = finish d from rfl, scopedRest0_eq, unscopedSems0_eq]
  unfold finish accAt recvAt Pipeline.ownSems0
  iintro ⟨Hs, Hz, Hb⟩
  isplitl [Hb]; · iexact Hb
  isplitl [Hz]; · iexact Hz
  iexact Hs

theorem waits (d : Dev nD) : (levAts L lv : sProp 𝕄) ⊢ Pipeline.cellsWaits cfgs (dats m ρ) () 0 d :=
  Pipeline.cellsWaits_intro cfgs (dats m ρ) () 0 d fun w s t =>
    mayWait_stage d _ ((by decide : ∀ (w : Fin cfg0.W) s, ((cfg0.spec w).sem s).val < 3) w s) _ (by
      rcases t with ⟨_ | _, ht⟩
      · exact Or.inl rfl
      · exact Or.inr rfl)

/-! ## The run -/

def u₀ : UU := (initOf (Pipeline.cells cfgs cellOf_inj) (Pipeline.launchToks cfgs cellOf_inj), initOf cells tokens)

/-- What device `d`'s array of window `w` ends as. -/
def final (d : Dev nD) (w : Fin cfg0.W) : Buf (Elt F) ((cfg0.win w).arr.view.loc (d : Thread nD τ)) := (dats m ρ 0 d).arrAt w cfg0.N

def Ends : PUnit × MemSt nD τ sig (Elt F) → Prop := fun r =>
  ∀ d : Dev nD, ∀ w : Fin cfg0.W, r.2.mem ((cfg0.win w).arr.view.loc (d : Thread nD τ)) = final m ρ d w

set_option maxRecDepth 100000 in
/-- For any float values, from any memory with zero counters, every execution of the program on the eight devices terminates, with the
    windows' arrays as `final` says and every semaphore counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := debt) (howed₀ := fun _ => rfl) (howedN := fun _ => rfl)
    (L := L) (lv := lv) (hL := L_of_ne) (hwaits := waits m ρ)
    (G := share₀ (aIn m) (bIn m)) (G' := share (aIn m) (bIn m)) (u₀ := u₀)
    (hu₀ := by
      unfold u₀
      iintro Hu
      ihave H := (ownU_pair _ _) $$ Hu
      icases H with ⟨HP, HX⟩
      imod (fund_cells (aIn m) (bIn m)) $$ HX with HG
      imodintro
      isplitl [HP] <;> iassumption)
    (hglob := glob (aIn m) (bIn m))
    (hA := fun _ _ => rfl) (hpf := fun _ k => k.elim0)
    (X := start m) (Y := fun d => unscopedSems0 d) (Z := fun _ => iprop(emp))
    (hX := start_intro m ρ) (hin := first_intro m ρ) (hout := last_exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

end Cert.KernelIdeal.Protocol
-- ==== Proof.Frames.lean ====
module

public import proofs.«01_k».proof.Proof.Launch
public import proofs.«01_k».proof.Proof.Gen.ReferenceIdeal.Run

/-!
# What the runs leave

The pipeline's one block of each array is the whole array; so the two inputs end as they began and the result array ends at `result`.
With every counter at zero this is each program's frame.
-/

@[expose] public section

noncomputable section

namespace Cert.KernelIdeal.Protocol

open Cert.KernelIdeal Cert.KernelIdeal.Gen Cert.KernelIdeal.Contents
open Idealize.ShloMosaic Idealize.ShloMosaic.TcCoe Idealize.SL.Sem

variable {F : FTy → Type} [FloatOps F]
variable (m : (ℓ : Loc nD τ sig) → Buf (Elt F) ℓ) (ρ : Dev nD → PrngReg)

/-- The first input's block is the whole array. -/
theorem aIn_eq (d : Dev nD) : aIn m d = m ((d : Thread nD τ).loc main_arg0) := by
  funext i
  refine congrArg (m ((d : Thread nD τ).loc main_arg0)) ?_
  funext x
  apply Fin.ext
  fin_cases x <;> exact (Nat.zero_add _).trans (Nat.one_mul _)

/-- The second input's block is the whole array. -/
theorem bIn_eq (d : Dev nD) : bIn m d = m ((d : Thread nD τ).loc main_arg1) := by
  funext i
  refine congrArg (m ((d : Thread nD τ).loc main_arg1)) ?_
  funext x
  apply Fin.ext
  fin_cases x <;> exact (Nat.zero_add _).trans (Nat.one_mul _)

/-- The first input ends as it began. -/
theorem final_a (d : Dev nD) : final m ρ d 0 = m ((d : Thread nD τ).loc main_arg0) := (dats m ρ 0 d).arrAt_in (0 : Fin 3) rfl _

/-- The second input ends as it began. -/
theorem final_b (d : Dev nD) : final m ρ d 1 = m ((d : Thread nD τ).loc main_arg1) := (dats m ρ 0 d).arrAt_in (1 : Fin 3) rfl _

/-- The result array's block ends at the result; -/
theorem final_block (d : Dev nD) : (win0_2.blk (0 : Fin 1)).view.read (Elt F) (final m ρ d 2) = result m := by
  unfold final
  rw [show cfg0.N = ((0 : Fin 1) : Fin cfg0.N).val + 1 from rfl, (dats m ρ 0 d).arrAt_succ (2 : Fin 3) (0 : Fin 1)]
  rw [show (cfg0.win (2 : Fin 3)).flush (0 : Fin 1) = true from by decide, if_pos rfl]
  exact View.read_write_univ _ _

/-- and the block is the whole array. -/
theorem final_out (d : Dev nD) : final m ρ d 2 = result m := by
  rw [← final_block m ρ d]
  funext i
  refine congrArg (final m ρ d 2) ?_
  funext x
  apply Fin.ext
  fin_cases x <;> exact ((Nat.zero_add _).trans (Nat.one_mul _)).symm

/-- From any memory with zero counters every execution terminates, on every device the inputs as they began and the result array at
    `result`, and every counter at zero. -/
theorem run_result : θ_run defs (onTc (τ := τ) (main (F := F))) (s₀ m ρ) (fun r => (∀ d : Dev nD,
    r.2.mem ((d : Thread nD τ).loc main_v1) = result m
    ∧ r.2.mem ((d : Thread nD τ).loc main_arg0) = m ((d : Thread nD τ).loc main_arg0)
    ∧ r.2.mem ((d : Thread nD τ).loc main_arg1) = m ((d : Thread nD τ).loc main_arg1)) ∧ r.2.sem = fun _ => 0) :=
  (θ_run defs _ _).mono (fun _ h => ⟨fun d => ⟨(h.1 d 2).trans (final_out m ρ d), (h.1 d 0).trans (final_a m ρ d),
    (h.1 d 1).trans (final_b m ρ d)⟩, h.2⟩) (run_main m ρ)

/-- The same run, the result array forgotten. -/
theorem run_frame : θ_run defs (onTc (τ := τ) (main (F := F))) ⟨m, fun _ => 0, ρ⟩ (fun r => (∀ d : Dev nD,
    r.2.mem ((d.tc : Thread nD τ).loc main_arg0) = m ((d.tc : Thread nD τ).loc main_arg0)
    ∧ r.2.mem ((d.tc : Thread nD τ).loc main_arg1) = m ((d.tc : Thread nD τ).loc main_arg1)) ∧ r.2.sem = fun _ => 0) :=
  (θ_run defs _ _).mono (fun _ h => ⟨fun d => (h.1 d).2, h.2⟩) (run_result m ρ)

end Cert.KernelIdeal.Protocol

end
-- ==== Proof.Dot.lean ====
module

public import proofs.«01_k».proof.Proof.Contents
public import Idealize.ShloMosaic.Lib.Pointwise
public import Idealize.ShloMosaic.Lib.Layout

/-!
# What the accumulators hold over the extended reals

An entry of a product is a sum of products; the three reduction steps add the eight devices' partial products, each once; and where the
devices hold the blocks of two arrays, that sum is an entry of the arrays' product.
-/

@[expose] public section

noncomputable section

namespace Cert.KernelIdeal.Value

open Cert.KernelIdeal Cert.KernelIdeal.Gen Cert.KernelIdeal.Steps Cert.KernelIdeal.Contents
open Idealize.ShloMosaic Idealize.ShloMosaic.TcCoe

/-- An entry of a product: the row of the left operand against the column of the right one, the column counted within its group. -/
theorem dotPay_apply (g : Fin 3) (y : Vec Ideal S768x1536 .bf16) (x : Vec Ideal S768x768 .bf16) (j : S768x512.Idx) :
    dotPay g y x j = ∑ k : Fin 768, x (at2 (j 0 : ℕ) k.val) * y (at2 k.val (512 * g.val + (j 1 : ℕ))) := by
  have hx : ∀ k : Fin 768, (at2 (j 0 : ℕ) k.val : S768x768.Idx) = ix2 (j 0) k := fun k => at2_eq rfl rfl
  simp only [hx]
  have hy : ∀ (k : Fin 768) (q : ℕ) (hq : q < 1536), y (at2 k.val q) = y (ix2 k ⟨q, hq⟩) := fun k q hq => congrArg y (at2_eq rfl rfl)
  match g with
  | 0 =>
    show k0_pay2 y x j = _
    pointwise [k0_pay2, k0_pay1]
    exact Finset.sum_congr rfl fun k _ => congrArg (x _ * ·) (hy k _ _).symm
  | 1 =>
    show k0_pay3 (k0_pay1 y) x j = _
    pointwise [k0_pay3, k0_pay1]
    exact Finset.sum_congr rfl fun k _ => congrArg (x _ * ·) (hy k _ _).symm
  | 2 =>
    show k0_pay4 (k0_pay1 y) x j = _
    pointwise [k0_pay4, k0_pay1]
    exact Finset.sum_congr rfl fun k _ => congrArg (x _ * ·) (hy k _ _).symm

variable (a : Dev nD → Vec Ideal S1536x768 .bf16) (b : Dev nD → Vec Ideal S768x1536 .bf16)

/-- An entry of device `d`'s partial product: its row of the device's block of `A` against its column of the device's block of `B`. -/
theorem part_apply (d : Dev nD) (i : S1536x1536.Idx) :
    part a b d i = ∑ k : Fin 768, a d (at2 (i 0 : ℕ) k.val) * b d (at2 k.val (i 1 : ℕ)) := by
  have h0 : (i 0 : ℕ) < 1536 := (i 0).isLt
  have h1 : (i 1 : ℕ) < 1536 := (i 1).isLt
  have e0 : ((at2 ((i 0 : ℕ) % 768) ((i 1 : ℕ) % 512) : S768x512.Idx) 0 : ℕ) = (i 0 : ℕ) % 768 := Nat.mod_eq_of_lt (by omega)
  have e1 : ((at2 ((i 0 : ℕ) % 768) ((i 1 : ℕ) % 512) : S768x512.Idx) 1 : ℕ) = (i 1 : ℕ) % 512 := Nat.mod_eq_of_lt (by omega)
  rw [part, dotPay_apply, e0, e1]
  refine Finset.sum_congr rfl fun k _ => ?_
  have f0 : ((at2 ((i 0 : ℕ) % 768) k.val : S768x768.Idx) 0 : ℕ) = (i 0 : ℕ) % 768 := Nat.mod_eq_of_lt (by omega)
  have f1 : ((at2 ((i 0 : ℕ) % 768) k.val : S768x768.Idx) 1 : ℕ) = k.val := Nat.mod_eq_of_lt k.isLt
  rw [aPart, f0, f1, show 768 * ((i 0 : ℕ) / 768) + (i 0 : ℕ) % 768 = (i 0 : ℕ) by omega,
    show 512 * (grp i).val + (i 1 : ℕ) % 512 = (i 1 : ℕ) from Nat.div_add_mod _ _]

/-! ## The sum over the devices -/

/-- The devices whose partial products are in device `d`'s accumulator after the three steps, in the order they are added. -/
def added (g : Fin 3) (d : Dev nD) : List (Dev nD) :=
  let two := fun e => [e, Geom.peer 0 g e]
  let four := fun e => two e ++ two (Geom.peer 1 g e)
  four d ++ four (Geom.peer 2 g d)

/-- They are all the devices, each once. -/
theorem added_perm : ∀ (g : Fin 3) (d : Dev nD), (added g d).Perm (List.finRange 8) := by decide +kernel

/-- The finished accumulator's entry is the sum of all devices' partial products there. -/
theorem acc_three (d : Dev nD) (i : S1536x1536.Idx) : acc a b 3 d i = ∑ e : Dev nD, part a b e i := by
  have h : acc a b 3 d i = ((added (grp i) d).map fun e => part a b e i).sum := by
    simp only [acc, added, Ideal.addf_def, List.map_append, List.map_cons, List.map_nil, List.sum_append, List.sum_cons, List.sum_nil, add_zero]
    rfl
  rw [h, ((added_perm (grp i) d).map _).sum_eq]
  exact (Fin.sum_univ_def _).symm

/-! ## The result -/

variable (A : Vec Ideal ⟨2, ![1536, 6144]⟩ .bf16) (B : Vec Ideal ⟨2, ![6144, 1536]⟩ .bf16)

/-- Where the devices' inputs are the blocks of `A` by columns and of `B` by rows, the sum of the partial products is the product. -/
theorem sum_parts (ha : ∀ d, a d = Layout.block ⟨2, ![1536, 768]⟩ ⟨2, ![1536, 6144]⟩ 1 8 d A)
    (hb : ∀ d, b d = Layout.block ⟨2, ![768, 1536]⟩ ⟨2, ![6144, 1536]⟩ 0 8 d B) (i : S1536x1536.Idx) :
    ∑ e : Dev nD, part a b e i = ∑ k : Fin 6144, A (ix2 (i 0) k) * B (ix2 k (i 1)) := by
  rw [Fin.sum_univ_tiles 8 768 rfl]
  refine Finset.sum_congr rfl fun e _ => ?_
  rw [part_apply]
  refine Finset.sum_congr rfl fun k _ => ?_
  rw [ha, hb]
  refine congrArg₂ (· * ·) (congrArg A ?_) (congrArg B ?_)
  · funext x
    apply Fin.ext
    fin_cases x
    · exact Nat.mod_eq_of_lt (i 0).isLt
    · exact congrArg (e.val * 768 + ·) (Nat.mod_eq_of_lt k.isLt)
  · funext x
    apply Fin.ext
    fin_cases x
    · exact congrArg (e.val * 768 + ·) (Nat.mod_eq_of_lt k.isLt)
    · exact Nat.mod_eq_of_lt (i 1).isLt

end Cert.KernelIdeal.Value

end
-- ==== Proof.Claims.lean ====
module

public import proofs.«01_k».proof.Defs
public import proofs.«01_k».proof.Proof.Frames
public import proofs.«01_k».proof.Proof.Dot
public import proofs.«01_k».proof.Proof.Gen.Kernel

/-!
# The claims

Each program terminates from any memory, leaves its arguments as they were and every semaphore counter at zero; and over the extended
reals every device's result is the reference's.
-/

@[expose] public section

noncomputable section

namespace Cert.Proof

open Idealize.ShloMosaic Idealize.SL.Sem

set_option maxRecDepth 100000 in
/-- The two kernels' body tables are the same. -/
theorem bodies_eq : Cert.Kernel.defs₀ (F := Bits) = Cert.KernelIdeal.defs₀ := by
  refine congrArg Defs.onTc ?_
  funext l x
  match l, x with
  | 0, (t, s) => rfl
  | ⟨_ + 1, h⟩, _ => exact absurd h (Nat.not_lt.2 (Nat.le_add_left _ _))

/-- The two programs' tables are the same. -/
theorem tables_eq : Cert.Kernel.defs (F := Bits) = Cert.KernelIdeal.defs :=
  congrArg (Pipeline.defs Cert.KernelIdeal.pcfgs) bodies_eq

set_option maxRecDepth 100000 in
/-- The kernel as printed: its text is the idealized kernel's, run at the machine's words. -/
theorem frame_kernel : Cert.quiescent_Kernel := fun m ρ _ =>
  (congrArg (fun D => θ_run D (onTc (τ := Cert.KernelIdeal.τ) (Cert.KernelIdeal.main (F := Bits))) ⟨m, fun _ => 0, ρ⟩ (fun r =>
    (∀ d : Dev Cert.KernelIdeal.nD,
      r.2.mem ((d.tc : Thread Cert.KernelIdeal.nD Cert.KernelIdeal.τ).loc Cert.KernelIdeal.main_arg0) = m (d.tc.loc Cert.KernelIdeal.main_arg0)
      ∧ r.2.mem ((d.tc : Thread Cert.KernelIdeal.nD Cert.KernelIdeal.τ).loc Cert.KernelIdeal.main_arg1) = m (d.tc.loc Cert.KernelIdeal.main_arg1))
    ∧ r.2.sem = fun _ => 0)) tables_eq).mpr (Cert.KernelIdeal.Protocol.run_frame (F := Bits) m ρ)

/-- The idealized kernel. -/
theorem frame_kernelIdeal : Cert.quiescent_KernelIdeal := fun m ρ _ =>
  Cert.KernelIdeal.Protocol.run_frame (F := Ideal) m ρ

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the devices' inputs are the blocks of the reference's arrays, each device's result is the reference's: the larger of zero and
    the arrays' product. -/
theorem result_eq (m : (ℓ : Loc Cert.KernelIdeal.nD Cert.KernelIdeal.τ Cert.KernelIdeal.sig) → Buf (Elt Ideal) ℓ)
    (A : Vec Ideal Cert.ReferenceIdeal.S1536x6144 .bf16) (B : Vec Ideal Cert.ReferenceIdeal.S6144x1536 .bf16)
    (ha : ∀ d, Cert.KernelIdeal.Protocol.aIn m d = Layout.block ⟨2, ![1536, 768]⟩ ⟨2, ![1536, 6144]⟩ 1 8 d A)
    (hb : ∀ d, Cert.KernelIdeal.Protocol.bIn m d = Layout.block ⟨2, ![768, 1536]⟩ ⟨2, ![6144, 1536]⟩ 0 8 d B) :
    Cert.KernelIdeal.Protocol.result m = maximumf (F := Ideal)
      (truncf .bf16 (Host.dotGeneral (φ₁ := .bf16) (φ₂ := .bf16) Cert.ReferenceIdeal.dot_S1536x6144_S6144x1536_S1536x1536_1_0_0_1_n_n none A B)
        Cert.ReferenceIdeal.Gen.bitsLt_bf16_f32)
      (broadcastInDim Cert.ReferenceIdeal.S1536x1536 ![] Cert.ReferenceIdeal.Gen.bcast_S_S1536x1536
        (constant Cert.ReferenceIdeal.S_ .bf16 0x0000#16)) := by
  funext i
  pointwise
  rw [Cert.KernelIdeal.Protocol.result, Cert.KernelIdeal.Contents.out, Cert.KernelIdeal.Value.acc_three,
    Cert.KernelIdeal.Value.sum_parts _ _ A B ha hb]
  exact congrArg (max _) (Ideal.ofBits_zero .bf16)

/-- The idealized kernel against the reference over the extended reals. -/
theorem algebraic : Cert.algebraic_KernelIdeal_ReferenceIdeal := by
  intro m ρ m' ρ' _ hagree
  refine ⟨_, (θ_run Cert.KernelIdeal.defs _ _).mono (fun _ h c => ⟨(h.1 c).1.trans ?_, (h.1 c).2⟩)
    (Cert.KernelIdeal.Protocol.run_result (F := Ideal) m ρ), (θ_run Cert.ReferenceIdeal.defs _ _).mono (fun _ h => h 0)
    (Cert.ReferenceIdeal.Value.run (F := Ideal) m' ρ')⟩
  exact result_eq m _ _ (fun d => (Cert.KernelIdeal.Protocol.aIn_eq m d).trans (hagree d).1)
    (fun d => (Cert.KernelIdeal.Protocol.bIn_eq m d).trans (hagree d).2)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Claims

/-!
# The certificate's claim

The three frames, the idealization (no operation rewritten), and the kernel against the reference over the extended reals; the modules
under Proof/ prove them.
-/

@[expose] public section

noncomputable section

namespace Cert.Proof

/-- Every claim of the certificate, under the facts that the programs state. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
